-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_unclipped_KernelIdeal [hPre_unclipped_KernelIdeal : Cert.Pre_unclipped_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_unclipped_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_unclipped_ReferenceIdeal [hPre_unclipped_ReferenceIdeal : Cert.Pre_unclipped_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_unclipped_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_SiluIdeal (m : (ℓ : Loc Cert.SiluIdeal.nD Cert.SiluIdeal.τ Cert.SiluIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_unclipped_KernelIdeal [hKernelIdeal : Cert.KernelIdeal.Facts] [hPre_unclipped_KernelIdeal : Cert.Pre_unclipped_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_unclipped_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_unclipped_ReferenceIdeal [hReferenceIdeal : Cert.ReferenceIdeal.Facts] [hPre_unclipped_ReferenceIdeal : Cert.Pre_unclipped_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_unclipped_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_SiluIdeal [hSiluIdeal : Cert.SiluIdeal.Facts] : Prop :=
  ∀ (m : (ℓ : Loc Cert.SiluIdeal.nD Cert.SiluIdeal.τ Cert.SiluIdeal.sig) → Buf (Elt Ideal) ℓ) (g : Dev Cert.SiluIdeal.nD → PrngReg), Pre_SiluIdeal m →
    θ_run (Cert.SiluIdeal.defs (F := Ideal)) (onTc (τ := Cert.SiluIdeal.τ) (Cert.SiluIdeal.main (F := Ideal))) ⟨m, fun _ => 0, g⟩ (fun r => (∀ c : Dev Cert.SiluIdeal.nD,
      r.2.mem ((c.tc : Thread Cert.SiluIdeal.nD Cert.SiluIdeal.τ).loc Cert.SiluIdeal.main_arg0) = m ((c.tc : Thread Cert.SiluIdeal.nD Cert.SiluIdeal.τ).loc Cert.SiluIdeal.main_arg0)
      ∧ r.2.mem ((c.tc : Thread Cert.SiluIdeal.nD Cert.SiluIdeal.τ).loc Cert.SiluIdeal.main_arg1) = m ((c.tc : Thread Cert.SiluIdeal.nD Cert.SiluIdeal.τ).loc Cert.SiluIdeal.main_arg1))
      ∧ r.2.sem = fun _ => 0)

def preserves_Kernel_KernelIdeal : Prop :=
  True

def algebraic_KernelIdeal_SiluIdeal [hKernelIdeal : Cert.KernelIdeal.Facts] [hSiluIdeal : Cert.SiluIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.SiluIdeal.nD Cert.SiluIdeal.τ Cert.SiluIdeal.sig) → Buf (Elt Ideal) ℓ) (g' : Dev Cert.SiluIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 256]⟩ ⟨2, ![2048, 2048]⟩ 1 8 c (m' (((0 : Dev Cert.SiluIdeal.nD).tc : Thread Cert.SiluIdeal.nD Cert.SiluIdeal.τ).loc Cert.SiluIdeal.main_arg0))
      ∧ m ((c.tc : Thread Cert.KernelIdeal.nD Cert.KernelIdeal.τ).loc Cert.KernelIdeal.main_arg1) = m' (((0 : Dev Cert.SiluIdeal.nD).tc : Thread Cert.SiluIdeal.nD Cert.SiluIdeal.τ).loc Cert.SiluIdeal.main_arg1)) →
    ∃ (v0 : Buf (Elt Ideal) (((0 : Dev Cert.SiluIdeal.nD).tc : Thread Cert.SiluIdeal.nD Cert.SiluIdeal.τ).loc Cert.SiluIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 2048]⟩ ⟨2, ![2048, 2048]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.SiluIdeal.defs (F := Ideal)) (onTc (τ := Cert.SiluIdeal.τ) (Cert.SiluIdeal.main (F := Ideal))) ⟨m', fun _ => 0, g'⟩ (fun r =>
          r.2.mem (((0 : Dev Cert.SiluIdeal.nD).tc : Thread Cert.SiluIdeal.nD Cert.SiluIdeal.τ).loc Cert.SiluIdeal.main_v5) = v0
          ∧ r.2.mem (((0 : Dev Cert.SiluIdeal.nD).tc : Thread Cert.SiluIdeal.nD Cert.SiluIdeal.τ).loc Cert.SiluIdeal.main_arg0) = m' (((0 : Dev Cert.SiluIdeal.nD).tc : Thread Cert.SiluIdeal.nD Cert.SiluIdeal.τ).loc Cert.SiluIdeal.main_arg0)
          ∧ r.2.mem (((0 : Dev Cert.SiluIdeal.nD).tc : Thread Cert.SiluIdeal.nD Cert.SiluIdeal.τ).loc Cert.SiluIdeal.main_arg1) = m' (((0 : Dev Cert.SiluIdeal.nD).tc : Thread Cert.SiluIdeal.nD Cert.SiluIdeal.τ).loc Cert.SiluIdeal.main_arg1))

def algebraic_KernelIdeal_ReferenceIdeal_pre_unclipped_KernelIdeal [hKernelIdeal : Cert.KernelIdeal.Facts] [hReferenceIdeal : Cert.ReferenceIdeal.Facts] [hPre_unclipped_KernelIdeal : Cert.Pre_unclipped_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_unclipped_KernelIdeal m →
    (∀ c : Dev Cert.KernelIdeal.nD,
      m ((c.tc : Thread Cert.KernelIdeal.nD Cert.KernelIdeal.τ).loc Cert.KernelIdeal.main_arg0) = Layout.block ⟨2, ![2048, 256]⟩ ⟨2, ![2048, 2048]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 2048]⟩ ⟨2, ![2048, 2048]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hSiluIdeal : Cert.SiluIdeal.Facts) (hPre_unclipped_KernelIdeal : Cert.Pre_unclipped_KernelIdeal.Facts) (hPre_unclipped_ReferenceIdeal : Cert.Pre_unclipped_ReferenceIdeal.Facts),
    quiescent_Kernel (hKernel := hKernel)
    ∧ quiescent_KernelIdeal (hKernelIdeal := hKernelIdeal)
    ∧ quiescent_KernelIdeal_pre_unclipped_KernelIdeal (hKernelIdeal := hKernelIdeal) (hPre_unclipped_KernelIdeal := hPre_unclipped_KernelIdeal)
    ∧ quiescent_ReferenceIdeal (hReferenceIdeal := hReferenceIdeal)
    ∧ quiescent_ReferenceIdeal_pre_unclipped_ReferenceIdeal (hReferenceIdeal := hReferenceIdeal) (hPre_unclipped_ReferenceIdeal := hPre_unclipped_ReferenceIdeal)
    ∧ quiescent_SiluIdeal (hSiluIdeal := hSiluIdeal)
    ∧ preserves_Kernel_KernelIdeal
    ∧ algebraic_KernelIdeal_SiluIdeal (hKernelIdeal := hKernelIdeal) (hSiluIdeal := hSiluIdeal)
    ∧ algebraic_KernelIdeal_ReferenceIdeal_pre_unclipped_KernelIdeal (hKernelIdeal := hKernelIdeal) (hReferenceIdeal := hReferenceIdeal) (hPre_unclipped_KernelIdeal := hPre_unclipped_KernelIdeal)
-- ==== Pre_unclipped_KernelIdeal.lean ====
abbrev S2048x256 : Shape := ⟨2, ![2048, 256]⟩
abbrev S2048x2048 : Shape := ⟨2, ![2048, 2048]⟩
abbrev S8x256x2048 : Shape := ⟨3, ![8, 256, 2048]⟩
abbrev S2048x8x2048 : Shape := ⟨3, ![2048, 8, 2048]⟩
abbrev S_ : Shape := ⟨0, ![]⟩

class Facts : Prop where
  shapeCasts_S2048x2048_S8x256x2048 : S2048x2048.ShapeCasts S8x256x2048
  bcast_S_S2048x8x2048 : S_.BroadcastsInDim S2048x8x2048 (![] : Fin 0 → Fin S2048x8x2048.rank)
  reducesTo_S2048x8x2048_S_d0_1_2 : S2048x8x2048.ReducesTo [0, 1, 2] S_
  h_S_ : 0 < S_.numel
  dot_S2048x256_S8x256x2048_S2048x8x2048_1_1_0_02_n_n_wf : DotDims.WF S2048x256 S8x256x2048 S2048x8x2048 [1] [1] [0] [0, 2] [] []

variable [Facts]

def dot_S2048x256_S8x256x2048_S2048x8x2048_1_1_0_02_n_n : DotDims S2048x256 S8x256x2048 S2048x8x2048 where
  lhsContracting := [1]
  rhsContracting := [1]
  lhsNonContracting := [0]
  rhsNonContracting := [0, 2]
  lhsBatch := []
  rhsBatch := []
  wf := dot_S2048x256_S8x256x2048_S2048x8x2048_1_1_0_02_n_n_wf
def fn {F : FTy → Type} [FloatOps F] (main_arg0 : FVec F S2048x256 .f32) (main_arg1 : FVec F S2048x2048 .f32) : IVec S_ 1 :=
  let main_v0 : FVec F S8x256x2048 .f32 := shapeCast S8x256x2048 main_arg1 shapeCasts_S2048x2048_S8x256x2048
  let main_v1 : FVec F S2048x8x2048 .f32 := (fun l r => Host.dotGeneral dot_S2048x256_S8x256x2048_S2048x8x2048_1_1_0_02_n_n none l r) main_arg0 main_v0
  let main_cst : FVec F S_ .f32 := constant S_ .f32 0xC0F00000#32
  let main_v2 : FVec F S2048x8x2048 .f32 := broadcastInDim S2048x8x2048 ![] bcast_S_S2048x8x2048 main_cst
  let main_v3 : IVec S2048x8x2048 1 := cmpf .oge main_v1 main_v2
  let main_cst_0 : FVec F S_ .f32 := constant S_ .f32 0x40F00000#32
  let main_v4 : FVec F S2048x8x2048 .f32 := broadcastInDim S2048x8x2048 ![] bcast_S_S2048x8x2048 main_cst_0
  let main_v5 : IVec S2048x8x2048 1 := cmpf .ole main_v1 main_v4
  let main_v6 : IVec S2048x8x2048 1 := andi main_v3 main_v5
  let main_c : IVec S_ 1 := constantI S_ 1 1#1
  let main_v7 : IVec S_ 1 := (fun x v => Host.reduce IntOp.andi x v reducesTo_S2048x8x2048_S_d0_1_2 h_S_) main_v6 main_c
  main_v7
-- ==== Pre_unclipped_ReferenceIdeal.lean ====
abbrev S2048x2048 : Shape := ⟨2, ![2048, 2048]⟩
abbrev S1x2048x2048 : Shape := ⟨3, ![1, 2048, 2048]⟩
abbrev S2048x1x2048 : Shape := ⟨3, ![2048, 1, 2048]⟩
abbrev S_ : Shape := ⟨0, ![]⟩

class Facts : Prop where
  shapeCasts_S2048x2048_S1x2048x2048 : S2048x2048.ShapeCasts S1x2048x2048
  bcast_S_S2048x1x2048 : S_.BroadcastsInDim S2048x1x2048 (![] : Fin 0 → Fin S2048x1x2048.rank)
  reducesTo_S2048x1x2048_S_d0_1_2 : S2048x1x2048.ReducesTo [0, 1, 2] S_
  h_S_ : 0 < S_.numel
  dot_S2048x2048_S1x2048x2048_S2048x1x2048_1_1_0_02_n_n_wf : DotDims.WF S2048x2048 S1x2048x2048 S2048x1x2048 [1] [1] [0] [0, 2] [] []

variable [Facts]

def dot_S2048x2048_S1x2048x2048_S2048x1x2048_1_1_0_02_n_n : DotDims S2048x2048 S1x2048x2048 S2048x1x2048 where
  lhsContracting := [1]
  rhsContracting := [1]
  lhsNonContracting := [0]
  rhsNonContracting := [0, 2]
  lhsBatch := []
  rhsBatch := []
  wf := dot_S2048x2048_S1x2048x2048_S2048x1x2048_1_1_0_02_n_n_wf
def fn {F : FTy → Type} [FloatOps F] (main_arg0 : FVec F S2048x2048 .f32) (main_arg1 : FVec F S2048x2048 .f32) : IVec S_ 1 :=
  let main_v0 : FVec F S1x2048x2048 .f32 := shapeCast S1x2048x2048 main_arg1 shapeCasts_S2048x2048_S1x2048x2048
  let main_v1 : FVec F S2048x1x2048 .f32 := (fun l r => Host.dotGeneral dot_S2048x2048_S1x2048x2048_S2048x1x2048_1_1_0_02_n_n none l r) main_arg0 main_v0
  let main_cst : FVec F S_ .f32 := constant S_ .f32 0xC0F00000#32
  let main_v2 : FVec F S2048x1x2048 .f32 := broadcastInDim S2048x1x2048 ![] bcast_S_S2048x1x2048 main_cst
  let main_v3 : IVec S2048x1x2048 1 := cmpf .oge main_v1 main_v2
  let main_cst_0 : FVec F S_ .f32 := constant S_ .f32 0x40F00000#32
  let main_v4 : FVec F S2048x1x2048 .f32 := broadcastInDim S2048x1x2048 ![] bcast_S_S2048x1x2048 main_cst_0
  let main_v5 : IVec S2048x1x2048 1 := cmpf .ole main_v1 main_v4
  let main_v6 : IVec S2048x1x2048 1 := andi main_v3 main_v5
  let main_c : IVec S_ 1 := constantI S_ 1 1#1
  let main_v7 : IVec S_ 1 := (fun x v => Host.reduce IntOp.andi x v reducesTo_S2048x1x2048_S_d0_1_2 h_S_) main_v6 main_c
  main_v7
-- ==== Kernel.lean ====
abbrev S2048x256 : Shape := ⟨2, ![2048, 256]⟩
abbrev S2048x2048 : Shape := ⟨2, ![2048, 2048]⟩
abbrev S256x2048 : Shape := ⟨2, ![256, 2048]⟩
abbrev S2x512x2048 : Shape := ⟨3, ![2, 512, 2048]⟩
abbrev S7 : Shape := ⟨1, ![7]⟩
abbrev S2x2 : Shape := ⟨2, ![2, 2]⟩
abbrev S_ : Shape := ⟨0, ![]⟩
abbrev S2 : Shape := ⟨1, ![2]⟩
abbrev S1x1 : Shape := ⟨2, ![1, 1]⟩
abbrev S1x256x2048 : Shape := ⟨3, ![1, 256, 2048]⟩
abbrev S1 : Shape := ⟨1, ![1]⟩
abbrev S256x256 : Shape := ⟨2, ![256, 256]⟩
abbrev S256x512 : Shape := ⟨2, ![256, 512]⟩
abbrev S1x512x2048 : Shape := ⟨3, ![1, 512, 2048]⟩
abbrev S512x2048 : Shape := ⟨2, ![512, 2048]⟩

abbrev nBuf : Space → Nat
  | .hbm => 3
  | .vmem => 5
  | .smem => 0
  | _ => 0

abbrev bufTy : (tb : Table) → Fin (tcTables nBuf tb) → BufTy
  | .hbm, ⟨0, _⟩ => ⟨S2048x256, .f32⟩
  | .hbm, ⟨1, _⟩ => ⟨S2048x2048, .f32⟩
  | .hbm, ⟨2, _⟩ => ⟨S256x2048, .f32⟩
  | .local _ .vmem, ⟨0, _⟩ => ⟨S2048x256, .f32⟩
  | .local _ .vmem, ⟨1, _⟩ => ⟨S2048x256, .bf16⟩
  | .local _ .vmem, ⟨2, _⟩ => ⟨S256x2048, .bf16⟩
  | .local _ .vmem, ⟨3, _⟩ => ⟨S2x512x2048, .f32⟩
  | .local _ .vmem, ⟨4, _⟩ => ⟨S256x2048, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 2 → Bool
  | ⟨0, _⟩ => true
  | ⟨1, _⟩ => false
  | _ => false

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  (ofTc nBuf bufTy 2 21 bufScoped semScoped dmaSemScoped tileCredit tileCredit_eq_zero tileCredit_pos).withBarriers [(0, 1)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev barrier0 : Sem sig := 1

abbrev nD : Nat := 8
abbrev τ : Topo := Topo.v7x

variable {F : FTy → Type} [FloatOps F]

abbrev grid0 : Pipeline.Grid := .none

def k0_off1 (d0 : Dev nD) (c0_i32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v3 : BitVec 32 := Scalar.subi v2 c0_i32
  let c8_i32_0 : BitVec 32 := 8#32
  let c0_i32_1 : BitVec 32 := 0#32
  let v4 : BitVec 1 := Scalar.cmpi .eq c8_i32_0 c0_i32_1
  let c1_i32_2 : BitVec 32 := 1#32
  let v5 : BitVec 32 := Scalar.select v4 c1_i32_2 c8_i32_0
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c256_i32 : BitVec 32 := 256#32
  let v14 : BitVec 32 := Scalar.muli v13 c256_i32
  let c0_i32_11 : BitVec 32 := 0#32
  ![v14.toNat, 0]
def k0_dev1 (d0 : Dev nD) : Nat :=
  let c0_i32_34 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_25 : BitVec 32 := 1#32
  let v38 : BitVec 32 := Scalar.addi v2 c1_i32_25
  let c8_i32_26 : BitVec 32 := 8#32
  let c0_i32_27 : BitVec 32 := 0#32
  let v39 : BitVec 1 := Scalar.cmpi .eq c8_i32_26 c0_i32_27
  let c1_i32_28 : BitVec 32 := 1#32
  let v40 : BitVec 32 := Scalar.select v39 c1_i32_28 c8_i32_26
  let v41 : BitVec 32 := Scalar.remsi v38 v40
  let c0_i32_30 : BitVec 32 := 0#32
  let v43 : BitVec 1 := Scalar.cmpi .slt v41 c0_i32_30
  let c0_i32_31 : BitVec 32 := 0#32
  let v44 : BitVec 1 := Scalar.cmpi .slt v40 c0_i32_31
  let v45 : BitVec 1 := Scalar.xori v43 v44
  let c0_i32_29 : BitVec 32 := 0#32
  let v42 : BitVec 1 := Scalar.cmpi .ne v41 c0_i32_29
  let v46 : BitVec 1 := Scalar.andi v45 v42
  let v47 : BitVec 32 := Scalar.addi v41 v40
  let v48 : BitVec 32 := Scalar.select v46 v47 v41
  let c1_i32_33 : BitVec 32 := 1#32
  let v49 : BitVec 32 := Scalar.muli v48 c1_i32_33
  let v50 : BitVec 32 := Scalar.addi c0_i32_34 v49
  v50.toNat
def k0_dev2 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_35 : BitVec 32 := 2#32
  let v51 : BitVec 32 := Scalar.addi v2 c2_i32_35
  let c8_i32_36 : BitVec 32 := 8#32
  let c0_i32_37 : BitVec 32 := 0#32
  let v52 : BitVec 1 := Scalar.cmpi .eq c8_i32_36 c0_i32_37
  let c1_i32_38 : BitVec 32 := 1#32
  let v53 : BitVec 32 := Scalar.select v52 c1_i32_38 c8_i32_36
  let v54 : BitVec 32 := Scalar.remsi v51 v53
  let c0_i32_40 : BitVec 32 := 0#32
  let v56 : BitVec 1 := Scalar.cmpi .slt v54 c0_i32_40
  let c0_i32_41 : BitVec 32 := 0#32
  let v57 : BitVec 1 := Scalar.cmpi .slt v53 c0_i32_41
  let v58 : BitVec 1 := Scalar.xori v56 v57
  let c0_i32_39 : BitVec 32 := 0#32
  let v55 : BitVec 1 := Scalar.cmpi .ne v54 c0_i32_39
  let v59 : BitVec 1 := Scalar.andi v58 v55
  let v60 : BitVec 32 := Scalar.addi v54 v53
  let v61 : BitVec 32 := Scalar.select v59 v60 v54
  let c1_i32_43 : BitVec 32 := 1#32
  let v62 : BitVec 32 := Scalar.muli v61 c1_i32_43
  let v63 : BitVec 32 := Scalar.addi c0_i32_44 v62
  v63.toNat
def k0_dev3 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v64 : BitVec 32 := Scalar.addi v2 c3_i32
  let c8_i32_45 : BitVec 32 := 8#32
  let c0_i32_46 : BitVec 32 := 0#32
  let v65 : BitVec 1 := Scalar.cmpi .eq c8_i32_45 c0_i32_46
  let c1_i32_47 : BitVec 32 := 1#32
  let v66 : BitVec 32 := Scalar.select v65 c1_i32_47 c8_i32_45
  let v67 : BitVec 32 := Scalar.remsi v64 v66
  let c0_i32_49 : BitVec 32 := 0#32
  let v69 : BitVec 1 := Scalar.cmpi .slt v67 c0_i32_49
  let c0_i32_50 : BitVec 32 := 0#32
  let v70 : BitVec 1 := Scalar.cmpi .slt v66 c0_i32_50
  let v71 : BitVec 1 := Scalar.xori v69 v70
  let c0_i32_48 : BitVec 32 := 0#32
  let v68 : BitVec 1 := Scalar.cmpi .ne v67 c0_i32_48
  let v72 : BitVec 1 := Scalar.andi v71 v68
  let v73 : BitVec 32 := Scalar.addi v67 v66
  let v74 : BitVec 32 := Scalar.select v72 v73 v67
  let c1_i32_52 : BitVec 32 := 1#32
  let v75 : BitVec 32 := Scalar.muli v74 c1_i32_52
  let v76 : BitVec 32 := Scalar.addi c0_i32_53 v75
  v76.toNat
def k0_dev4 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v77 : BitVec 32 := Scalar.addi v2 c4_i32
  let c8_i32_54 : BitVec 32 := 8#32
  let c0_i32_55 : BitVec 32 := 0#32
  let v78 : BitVec 1 := Scalar.cmpi .eq c8_i32_54 c0_i32_55
  let c1_i32_56 : BitVec 32 := 1#32
  let v79 : BitVec 32 := Scalar.select v78 c1_i32_56 c8_i32_54
  let v80 : BitVec 32 := Scalar.remsi v77 v79
  let c0_i32_58 : BitVec 32 := 0#32
  let v82 : BitVec 1 := Scalar.cmpi .slt v80 c0_i32_58
  let c0_i32_59 : BitVec 32 := 0#32
  let v83 : BitVec 1 := Scalar.cmpi .slt v79 c0_i32_59
  let v84 : BitVec 1 := Scalar.xori v82 v83
  let c0_i32_57 : BitVec 32 := 0#32
  let v81 : BitVec 1 := Scalar.cmpi .ne v80 c0_i32_57
  let v85 : BitVec 1 := Scalar.andi v84 v81
  let v86 : BitVec 32 := Scalar.addi v80 v79
  let v87 : BitVec 32 := Scalar.select v85 v86 v80
  let c1_i32_61 : BitVec 32 := 1#32
  let v88 : BitVec 32 := Scalar.muli v87 c1_i32_61
  let v89 : BitVec 32 := Scalar.addi c0_i32_62 v88
  v89.toNat
def k0_dev5 (d0 : Dev nD) : Nat :=
  let c0_i32_71 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v90 : BitVec 32 := Scalar.addi v2 c5_i32
  let c8_i32_63 : BitVec 32 := 8#32
  let c0_i32_64 : BitVec 32 := 0#32
  let v91 : BitVec 1 := Scalar.cmpi .eq c8_i32_63 c0_i32_64
  let c1_i32_65 : BitVec 32 := 1#32
  let v92 : BitVec 32 := Scalar.select v91 c1_i32_65 c8_i32_63
  let v93 : BitVec 32 := Scalar.remsi v90 v92
  let c0_i32_67 : BitVec 32 := 0#32
  let v95 : BitVec 1 := Scalar.cmpi .slt v93 c0_i32_67
  let c0_i32_68 : BitVec 32 := 0#32
  let v96 : BitVec 1 := Scalar.cmpi .slt v92 c0_i32_68
  let v97 : BitVec 1 := Scalar.xori v95 v96
  let c0_i32_66 : BitVec 32 := 0#32
  let v94 : BitVec 1 := Scalar.cmpi .ne v93 c0_i32_66
  let v98 : BitVec 1 := Scalar.andi v97 v94
  let v99 : BitVec 32 := Scalar.addi v93 v92
  let v100 : BitVec 32 := Scalar.select v98 v99 v93
  let c1_i32_70 : BitVec 32 := 1#32
  let v101 : BitVec 32 := Scalar.muli v100 c1_i32_70
  let v102 : BitVec 32 := Scalar.addi c0_i32_71 v101
  v102.toNat
def k0_dev6 (d0 : Dev nD) : Nat :=
  let c0_i32_80 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v103 : BitVec 32 := Scalar.addi v2 c6_i32
  let c8_i32_72 : BitVec 32 := 8#32
  let c0_i32_73 : BitVec 32 := 0#32
  let v104 : BitVec 1 := Scalar.cmpi .eq c8_i32_72 c0_i32_73
  let c1_i32_74 : BitVec 32 := 1#32
  let v105 : BitVec 32 := Scalar.select v104 c1_i32_74 c8_i32_72
  let v106 : BitVec 32 := Scalar.remsi v103 v105
  let c0_i32_76 : BitVec 32 := 0#32
  let v108 : BitVec 1 := Scalar.cmpi .slt v106 c0_i32_76
  let c0_i32_77 : BitVec 32 := 0#32
  let v109 : BitVec 1 := Scalar.cmpi .slt v105 c0_i32_77
  let v110 : BitVec 1 := Scalar.xori v108 v109
  let c0_i32_75 : BitVec 32 := 0#32
  let v107 : BitVec 1 := Scalar.cmpi .ne v106 c0_i32_75
  let v111 : BitVec 1 := Scalar.andi v110 v107
  let v112 : BitVec 32 := Scalar.addi v106 v105
  let v113 : BitVec 32 := Scalar.select v111 v112 v106
  let c1_i32_79 : BitVec 32 := 1#32
  let v114 : BitVec 32 := Scalar.muli v113 c1_i32_79
  let v115 : BitVec 32 := Scalar.addi c0_i32_80 v114
  v115.toNat
def k0_dev7 (d0 : Dev nD) : Nat :=
  let c0_i32_89 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v116 : BitVec 32 := Scalar.addi v2 c7_i32
  let c8_i32_81 : BitVec 32 := 8#32
  let c0_i32_82 : BitVec 32 := 0#32
  let v117 : BitVec 1 := Scalar.cmpi .eq c8_i32_81 c0_i32_82
  let c1_i32_83 : BitVec 32 := 1#32
  let v118 : BitVec 32 := Scalar.select v117 c1_i32_83 c8_i32_81
  let v119 : BitVec 32 := Scalar.remsi v116 v118
  let c0_i32_85 : BitVec 32 := 0#32
  let v121 : BitVec 1 := Scalar.cmpi .slt v119 c0_i32_85
  let c0_i32_86 : BitVec 32 := 0#32
  let v122 : BitVec 1 := Scalar.cmpi .slt v118 c0_i32_86
  let v123 : BitVec 1 := Scalar.xori v121 v122
  let c0_i32_84 : BitVec 32 := 0#32
  let v120 : BitVec 1 := Scalar.cmpi .ne v119 c0_i32_84
  let v124 : BitVec 1 := Scalar.andi v123 v120
  let v125 : BitVec 32 := Scalar.addi v119 v118
  let v126 : BitVec 32 := Scalar.select v124 v125 v119
  let c1_i32_88 : BitVec 32 := 1#32
  let v127 : BitVec 32 := Scalar.muli v126 c1_i32_88
  let v128 : BitVec 32 := Scalar.addi c0_i32_89 v127
  v128.toNat
def k0_off2 (d0 : Dev nD) (c2_i32_94 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v134 : BitVec 32 := Scalar.addi v2 c2_i32_94
  let c8_i32_95 : BitVec 32 := 8#32
  let c0_i32_96 : BitVec 32 := 0#32
  let v135 : BitVec 1 := Scalar.cmpi .eq c8_i32_95 c0_i32_96
  let c1_i32_97 : BitVec 32 := 1#32
  let v136 : BitVec 32 := Scalar.select v135 c1_i32_97 c8_i32_95
  let v137 : BitVec 32 := Scalar.remsi v134 v136
  let c0_i32_99 : BitVec 32 := 0#32
  let v139 : BitVec 1 := Scalar.cmpi .slt v137 c0_i32_99
  let c0_i32_100 : BitVec 32 := 0#32
  let v140 : BitVec 1 := Scalar.cmpi .slt v136 c0_i32_100
  let v141 : BitVec 1 := Scalar.xori v139 v140
  let c0_i32_98 : BitVec 32 := 0#32
  let v138 : BitVec 1 := Scalar.cmpi .ne v137 c0_i32_98
  let v142 : BitVec 1 := Scalar.andi v141 v138
  let v143 : BitVec 32 := Scalar.addi v137 v136
  let v144 : BitVec 32 := Scalar.select v142 v143 v137
  let c256_i32_101 : BitVec 32 := 256#32
  let v145 : BitVec 32 := Scalar.muli v144 c256_i32_101
  let c0_i32_108 : BitVec 32 := 0#32
  ![v145.toNat, 0]
def k0_dev8 (d0 : Dev nD) : Nat :=
  let c0_i32_105 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_94 : BitVec 32 := 2#32
  let v134 : BitVec 32 := Scalar.addi v2 c2_i32_94
  let c8_i32_95 : BitVec 32 := 8#32
  let c0_i32_96 : BitVec 32 := 0#32
  let v135 : BitVec 1 := Scalar.cmpi .eq c8_i32_95 c0_i32_96
  let c1_i32_97 : BitVec 32 := 1#32
  let v136 : BitVec 32 := Scalar.select v135 c1_i32_97 c8_i32_95
  let v137 : BitVec 32 := Scalar.remsi v134 v136
  let c0_i32_99 : BitVec 32 := 0#32
  let v139 : BitVec 1 := Scalar.cmpi .slt v137 c0_i32_99
  let c0_i32_100 : BitVec 32 := 0#32
  let v140 : BitVec 1 := Scalar.cmpi .slt v136 c0_i32_100
  let v141 : BitVec 1 := Scalar.xori v139 v140
  let c0_i32_98 : BitVec 32 := 0#32
  let v138 : BitVec 1 := Scalar.cmpi .ne v137 c0_i32_98
  let v142 : BitVec 1 := Scalar.andi v141 v138
  let v143 : BitVec 32 := Scalar.addi v137 v136
  let v144 : BitVec 32 := Scalar.select v142 v143 v137
  let c1_i32_104 : BitVec 32 := 1#32
  let v146 : BitVec 32 := Scalar.muli v144 c1_i32_104
  let v147 : BitVec 32 := Scalar.addi c0_i32_105 v146
  v147.toNat
def k0_dev9 (d0 : Dev nD) : Nat :=
  let c0_i32_120 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_109 : BitVec 32 := 6#32
  let v154 : BitVec 32 := Scalar.addi v2 c6_i32_109
  let c8_i32_110 : BitVec 32 := 8#32
  let c0_i32_111 : BitVec 32 := 0#32
  let v155 : BitVec 1 := Scalar.cmpi .eq c8_i32_110 c0_i32_111
  let c1_i32_112 : BitVec 32 := 1#32
  let v156 : BitVec 32 := Scalar.select v155 c1_i32_112 c8_i32_110
  let v157 : BitVec 32 := Scalar.remsi v154 v156
  let c0_i32_114 : BitVec 32 := 0#32
  let v159 : BitVec 1 := Scalar.cmpi .slt v157 c0_i32_114
  let c0_i32_115 : BitVec 32 := 0#32
  let v160 : BitVec 1 := Scalar.cmpi .slt v156 c0_i32_115
  let v161 : BitVec 1 := Scalar.xori v159 v160
  let c0_i32_113 : BitVec 32 := 0#32
  let v158 : BitVec 1 := Scalar.cmpi .ne v157 c0_i32_113
  let v162 : BitVec 1 := Scalar.andi v161 v158
  let v163 : BitVec 32 := Scalar.addi v157 v156
  let v164 : BitVec 32 := Scalar.select v162 v163 v157
  let c1_i32_119 : BitVec 32 := 1#32
  let v166 : BitVec 32 := Scalar.muli v164 c1_i32_119
  let v167 : BitVec 32 := Scalar.addi c0_i32_120 v166
  v167.toNat
def k0_dev10 (d0 : Dev nD) : Nat :=
  let c0_i32_134 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_123 : BitVec 32 := 3#32
  let v174 : BitVec 32 := Scalar.addi v2 c3_i32_123
  let c8_i32_124 : BitVec 32 := 8#32
  let c0_i32_125 : BitVec 32 := 0#32
  let v175 : BitVec 1 := Scalar.cmpi .eq c8_i32_124 c0_i32_125
  let c1_i32_126 : BitVec 32 := 1#32
  let v176 : BitVec 32 := Scalar.select v175 c1_i32_126 c8_i32_124
  let v177 : BitVec 32 := Scalar.remsi v174 v176
  let c0_i32_128 : BitVec 32 := 0#32
  let v179 : BitVec 1 := Scalar.cmpi .slt v177 c0_i32_128
  let c0_i32_129 : BitVec 32 := 0#32
  let v180 : BitVec 1 := Scalar.cmpi .slt v176 c0_i32_129
  let v181 : BitVec 1 := Scalar.xori v179 v180
  let c0_i32_127 : BitVec 32 := 0#32
  let v178 : BitVec 1 := Scalar.cmpi .ne v177 c0_i32_127
  let v182 : BitVec 1 := Scalar.andi v181 v178
  let v183 : BitVec 32 := Scalar.addi v177 v176
  let v184 : BitVec 32 := Scalar.select v182 v183 v177
  let c1_i32_133 : BitVec 32 := 1#32
  let v186 : BitVec 32 := Scalar.muli v184 c1_i32_133
  let v187 : BitVec 32 := Scalar.addi c0_i32_134 v186
  v187.toNat
def k0_dev11 (d0 : Dev nD) : Nat :=
  let c0_i32_148 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_137 : BitVec 32 := 5#32
  let v194 : BitVec 32 := Scalar.addi v2 c5_i32_137
  let c8_i32_138 : BitVec 32 := 8#32
  let c0_i32_139 : BitVec 32 := 0#32
  let v195 : BitVec 1 := Scalar.cmpi .eq c8_i32_138 c0_i32_139
  let c1_i32_140 : BitVec 32 := 1#32
  let v196 : BitVec 32 := Scalar.select v195 c1_i32_140 c8_i32_138
  let v197 : BitVec 32 := Scalar.remsi v194 v196
  let c0_i32_142 : BitVec 32 := 0#32
  let v199 : BitVec 1 := Scalar.cmpi .slt v197 c0_i32_142
  let c0_i32_143 : BitVec 32 := 0#32
  let v200 : BitVec 1 := Scalar.cmpi .slt v196 c0_i32_143
  let v201 : BitVec 1 := Scalar.xori v199 v200
  let c0_i32_141 : BitVec 32 := 0#32
  let v198 : BitVec 1 := Scalar.cmpi .ne v197 c0_i32_141
  let v202 : BitVec 1 := Scalar.andi v201 v198
  let v203 : BitVec 32 := Scalar.addi v197 v196
  let v204 : BitVec 32 := Scalar.select v202 v203 v197
  let c1_i32_147 : BitVec 32 := 1#32
  let v206 : BitVec 32 := Scalar.muli v204 c1_i32_147
  let v207 : BitVec 32 := Scalar.addi c0_i32_148 v206
  v207.toNat
def k0_dev12 (d0 : Dev nD) : Nat :=
  let c0_i32_162 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_151 : BitVec 32 := 1#32
  let v214 : BitVec 32 := Scalar.addi v2 c1_i32_151
  let c8_i32_152 : BitVec 32 := 8#32
  let c0_i32_153 : BitVec 32 := 0#32
  let v215 : BitVec 1 := Scalar.cmpi .eq c8_i32_152 c0_i32_153
  let c1_i32_154 : BitVec 32 := 1#32
  let v216 : BitVec 32 := Scalar.select v215 c1_i32_154 c8_i32_152
  let v217 : BitVec 32 := Scalar.remsi v214 v216
  let c0_i32_156 : BitVec 32 := 0#32
  let v219 : BitVec 1 := Scalar.cmpi .slt v217 c0_i32_156
  let c0_i32_157 : BitVec 32 := 0#32
  let v220 : BitVec 1 := Scalar.cmpi .slt v216 c0_i32_157
  let v221 : BitVec 1 := Scalar.xori v219 v220
  let c0_i32_155 : BitVec 32 := 0#32
  let v218 : BitVec 1 := Scalar.cmpi .ne v217 c0_i32_155
  let v222 : BitVec 1 := Scalar.andi v221 v218
  let v223 : BitVec 32 := Scalar.addi v217 v216
  let v224 : BitVec 32 := Scalar.select v222 v223 v217
  let c1_i32_161 : BitVec 32 := 1#32
  let v226 : BitVec 32 := Scalar.muli v224 c1_i32_161
  let v227 : BitVec 32 := Scalar.addi c0_i32_162 v226
  v227.toNat
def k0_dev13 (d0 : Dev nD) : Nat :=
  let c0_i32_176 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_165 : BitVec 32 := 7#32
  let v234 : BitVec 32 := Scalar.addi v2 c7_i32_165
  let c8_i32_166 : BitVec 32 := 8#32
  let c0_i32_167 : BitVec 32 := 0#32
  let v235 : BitVec 1 := Scalar.cmpi .eq c8_i32_166 c0_i32_167
  let c1_i32_168 : BitVec 32 := 1#32
  let v236 : BitVec 32 := Scalar.select v235 c1_i32_168 c8_i32_166
  let v237 : BitVec 32 := Scalar.remsi v234 v236
  let c0_i32_170 : BitVec 32 := 0#32
  let v239 : BitVec 1 := Scalar.cmpi .slt v237 c0_i32_170
  let c0_i32_171 : BitVec 32 := 0#32
  let v240 : BitVec 1 := Scalar.cmpi .slt v236 c0_i32_171
  let v241 : BitVec 1 := Scalar.xori v239 v240
  let c0_i32_169 : BitVec 32 := 0#32
  let v238 : BitVec 1 := Scalar.cmpi .ne v237 c0_i32_169
  let v242 : BitVec 1 := Scalar.andi v241 v238
  let v243 : BitVec 32 := Scalar.addi v237 v236
  let v244 : BitVec 32 := Scalar.select v242 v243 v237
  let c1_i32_175 : BitVec 32 := 1#32
  let v246 : BitVec 32 := Scalar.muli v244 c1_i32_175
  let v247 : BitVec 32 := Scalar.addi c0_i32_176 v246
  v247.toNat
def k0_dev14 (d0 : Dev nD) : Nat :=
  let c0_i32_190 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_179 : BitVec 32 := 4#32
  let v254 : BitVec 32 := Scalar.addi v2 c4_i32_179
  let c8_i32_180 : BitVec 32 := 8#32
  let c0_i32_181 : BitVec 32 := 0#32
  let v255 : BitVec 1 := Scalar.cmpi .eq c8_i32_180 c0_i32_181
  let c1_i32_182 : BitVec 32 := 1#32
  let v256 : BitVec 32 := Scalar.select v255 c1_i32_182 c8_i32_180
  let v257 : BitVec 32 := Scalar.remsi v254 v256
  let c0_i32_184 : BitVec 32 := 0#32
  let v259 : BitVec 1 := Scalar.cmpi .slt v257 c0_i32_184
  let c0_i32_185 : BitVec 32 := 0#32
  let v260 : BitVec 1 := Scalar.cmpi .slt v256 c0_i32_185
  let v261 : BitVec 1 := Scalar.xori v259 v260
  let c0_i32_183 : BitVec 32 := 0#32
  let v258 : BitVec 1 := Scalar.cmpi .ne v257 c0_i32_183
  let v262 : BitVec 1 := Scalar.andi v261 v258
  let v263 : BitVec 32 := Scalar.addi v257 v256
  let v264 : BitVec 32 := Scalar.select v262 v263 v257
  let c1_i32_189 : BitVec 32 := 1#32
  let v266 : BitVec 32 := Scalar.muli v264 c1_i32_189
  let v267 : BitVec 32 := Scalar.addi c0_i32_190 v266
  v267.toNat
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_193 : BitVec 32 := 256#32
  let v274 : BitVec 32 := Scalar.muli v2 c256_i32_193
  let v275 : Index := Scalar.indexCast v274
  let c0_194 : Index := 0#32
  ![v275.toNat, 0]
def k0_dev15 (d0 : Dev nD) : Nat :=
  let c0_i32_277 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_268 : BitVec 32 := 2#32
  let v361 : BitVec 32 := Scalar.subi v2 c2_i32_268
  let c8_i32_269 : BitVec 32 := 8#32
  let c0_i32_270 : BitVec 32 := 0#32
  let v362 : BitVec 1 := Scalar.cmpi .eq c8_i32_269 c0_i32_270
  let c1_i32_271 : BitVec 32 := 1#32
  let v363 : BitVec 32 := Scalar.select v362 c1_i32_271 c8_i32_269
  let v364 : BitVec 32 := Scalar.remsi v361 v363
  let c0_i32_273 : BitVec 32 := 0#32
  let v366 : BitVec 1 := Scalar.cmpi .slt v364 c0_i32_273
  let c0_i32_274 : BitVec 32 := 0#32
  let v367 : BitVec 1 := Scalar.cmpi .slt v363 c0_i32_274
  let v368 : BitVec 1 := Scalar.xori v366 v367
  let c0_i32_272 : BitVec 32 := 0#32
  let v365 : BitVec 1 := Scalar.cmpi .ne v364 c0_i32_272
  let v369 : BitVec 1 := Scalar.andi v368 v365
  let v370 : BitVec 32 := Scalar.addi v364 v363
  let v371 : BitVec 32 := Scalar.select v369 v370 v364
  let c1_i32_276 : BitVec 32 := 1#32
  let v372 : BitVec 32 := Scalar.muli v371 c1_i32_276
  let v373 : BitVec 32 := Scalar.addi c0_i32_277 v372
  v373.toNat
def k0_dev16 (d0 : Dev nD) : Nat :=
  let c0_i32_367 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_358 : BitVec 32 := 6#32
  let v463 : BitVec 32 := Scalar.subi v2 c6_i32_358
  let c8_i32_359 : BitVec 32 := 8#32
  let c0_i32_360 : BitVec 32 := 0#32
  let v464 : BitVec 1 := Scalar.cmpi .eq c8_i32_359 c0_i32_360
  let c1_i32_361 : BitVec 32 := 1#32
  let v465 : BitVec 32 := Scalar.select v464 c1_i32_361 c8_i32_359
  let v466 : BitVec 32 := Scalar.remsi v463 v465
  let c0_i32_363 : BitVec 32 := 0#32
  let v468 : BitVec 1 := Scalar.cmpi .slt v466 c0_i32_363
  let c0_i32_364 : BitVec 32 := 0#32
  let v469 : BitVec 1 := Scalar.cmpi .slt v465 c0_i32_364
  let v470 : BitVec 1 := Scalar.xori v468 v469
  let c0_i32_362 : BitVec 32 := 0#32
  let v467 : BitVec 1 := Scalar.cmpi .ne v466 c0_i32_362
  let v471 : BitVec 1 := Scalar.andi v470 v467
  let v472 : BitVec 32 := Scalar.addi v466 v465
  let v473 : BitVec 32 := Scalar.select v471 v472 v466
  let c1_i32_366 : BitVec 32 := 1#32
  let v474 : BitVec 32 := Scalar.muli v473 c1_i32_366
  let v475 : BitVec 32 := Scalar.addi c0_i32_367 v474
  v475.toNat
def k0_dev17 (d0 : Dev nD) : Nat :=
  let c0_i32_377 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_368 : BitVec 32 := 3#32
  let v476 : BitVec 32 := Scalar.subi v2 c3_i32_368
  let c8_i32_369 : BitVec 32 := 8#32
  let c0_i32_370 : BitVec 32 := 0#32
  let v477 : BitVec 1 := Scalar.cmpi .eq c8_i32_369 c0_i32_370
  let c1_i32_371 : BitVec 32 := 1#32
  let v478 : BitVec 32 := Scalar.select v477 c1_i32_371 c8_i32_369
  let v479 : BitVec 32 := Scalar.remsi v476 v478
  let c0_i32_373 : BitVec 32 := 0#32
  let v481 : BitVec 1 := Scalar.cmpi .slt v479 c0_i32_373
  let c0_i32_374 : BitVec 32 := 0#32
  let v482 : BitVec 1 := Scalar.cmpi .slt v478 c0_i32_374
  let v483 : BitVec 1 := Scalar.xori v481 v482
  let c0_i32_372 : BitVec 32 := 0#32
  let v480 : BitVec 1 := Scalar.cmpi .ne v479 c0_i32_372
  let v484 : BitVec 1 := Scalar.andi v483 v480
  let v485 : BitVec 32 := Scalar.addi v479 v478
  let v486 : BitVec 32 := Scalar.select v484 v485 v479
  let c1_i32_376 : BitVec 32 := 1#32
  let v487 : BitVec 32 := Scalar.muli v486 c1_i32_376
  let v488 : BitVec 32 := Scalar.addi c0_i32_377 v487
  v488.toNat
def k0_dev18 (d0 : Dev nD) : Nat :=
  let c0_i32_468 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_459 : BitVec 32 := 5#32
  let v578 : BitVec 32 := Scalar.subi v2 c5_i32_459
  let c8_i32_460 : BitVec 32 := 8#32
  let c0_i32_461 : BitVec 32 := 0#32
  let v579 : BitVec 1 := Scalar.cmpi .eq c8_i32_460 c0_i32_461
  let c1_i32_462 : BitVec 32 := 1#32
  let v580 : BitVec 32 := Scalar.select v579 c1_i32_462 c8_i32_460
  let v581 : BitVec 32 := Scalar.remsi v578 v580
  let c0_i32_464 : BitVec 32 := 0#32
  let v583 : BitVec 1 := Scalar.cmpi .slt v581 c0_i32_464
  let c0_i32_465 : BitVec 32 := 0#32
  let v584 : BitVec 1 := Scalar.cmpi .slt v580 c0_i32_465
  let v585 : BitVec 1 := Scalar.xori v583 v584
  let c0_i32_463 : BitVec 32 := 0#32
  let v582 : BitVec 1 := Scalar.cmpi .ne v581 c0_i32_463
  let v586 : BitVec 1 := Scalar.andi v585 v582
  let v587 : BitVec 32 := Scalar.addi v581 v580
  let v588 : BitVec 32 := Scalar.select v586 v587 v581
  let c1_i32_467 : BitVec 32 := 1#32
  let v589 : BitVec 32 := Scalar.muli v588 c1_i32_467
  let v590 : BitVec 32 := Scalar.addi c0_i32_468 v589
  v590.toNat
def k0_dev19 (d0 : Dev nD) : Nat :=
  let c0_i32_478 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_469 : BitVec 32 := 1#32
  let v591 : BitVec 32 := Scalar.subi v2 c1_i32_469
  let c8_i32_470 : BitVec 32 := 8#32
  let c0_i32_471 : BitVec 32 := 0#32
  let v592 : BitVec 1 := Scalar.cmpi .eq c8_i32_470 c0_i32_471
  let c1_i32_472 : BitVec 32 := 1#32
  let v593 : BitVec 32 := Scalar.select v592 c1_i32_472 c8_i32_470
  let v594 : BitVec 32 := Scalar.remsi v591 v593
  let c0_i32_474 : BitVec 32 := 0#32
  let v596 : BitVec 1 := Scalar.cmpi .slt v594 c0_i32_474
  let c0_i32_475 : BitVec 32 := 0#32
  let v597 : BitVec 1 := Scalar.cmpi .slt v593 c0_i32_475
  let v598 : BitVec 1 := Scalar.xori v596 v597
  let c0_i32_473 : BitVec 32 := 0#32
  let v595 : BitVec 1 := Scalar.cmpi .ne v594 c0_i32_473
  let v599 : BitVec 1 := Scalar.andi v598 v595
  let v600 : BitVec 32 := Scalar.addi v594 v593
  let v601 : BitVec 32 := Scalar.select v599 v600 v594
  let c1_i32_477 : BitVec 32 := 1#32
  let v602 : BitVec 32 := Scalar.muli v601 c1_i32_477
  let v603 : BitVec 32 := Scalar.addi c0_i32_478 v602
  v603.toNat
def k0_dev20 (d0 : Dev nD) : Nat :=
  let c0_i32_542 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_533 : BitVec 32 := 7#32
  let v663 : BitVec 32 := Scalar.subi v2 c7_i32_533
  let c8_i32_534 : BitVec 32 := 8#32
  let c0_i32_535 : BitVec 32 := 0#32
  let v664 : BitVec 1 := Scalar.cmpi .eq c8_i32_534 c0_i32_535
  let c1_i32_536 : BitVec 32 := 1#32
  let v665 : BitVec 32 := Scalar.select v664 c1_i32_536 c8_i32_534
  let v666 : BitVec 32 := Scalar.remsi v663 v665
  let c0_i32_538 : BitVec 32 := 0#32
  let v668 : BitVec 1 := Scalar.cmpi .slt v666 c0_i32_538
  let c0_i32_539 : BitVec 32 := 0#32
  let v669 : BitVec 1 := Scalar.cmpi .slt v665 c0_i32_539
  let v670 : BitVec 1 := Scalar.xori v668 v669
  let c0_i32_537 : BitVec 32 := 0#32
  let v667 : BitVec 1 := Scalar.cmpi .ne v666 c0_i32_537
  let v671 : BitVec 1 := Scalar.andi v670 v667
  let v672 : BitVec 32 := Scalar.addi v666 v665
  let v673 : BitVec 32 := Scalar.select v671 v672 v666
  let c1_i32_541 : BitVec 32 := 1#32
  let v674 : BitVec 32 := Scalar.muli v673 c1_i32_541
  let v675 : BitVec 32 := Scalar.addi c0_i32_542 v674
  v675.toNat
def k0_dev21 (d0 : Dev nD) : Nat :=
  let c0_i32_552 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_543 : BitVec 32 := 4#32
  let v676 : BitVec 32 := Scalar.subi v2 c4_i32_543
  let c8_i32_544 : BitVec 32 := 8#32
  let c0_i32_545 : BitVec 32 := 0#32
  let v677 : BitVec 1 := Scalar.cmpi .eq c8_i32_544 c0_i32_545
  let c1_i32_546 : BitVec 32 := 1#32
  let v678 : BitVec 32 := Scalar.select v677 c1_i32_546 c8_i32_544
  let v679 : BitVec 32 := Scalar.remsi v676 v678
  let c0_i32_548 : BitVec 32 := 0#32
  let v681 : BitVec 1 := Scalar.cmpi .slt v679 c0_i32_548
  let c0_i32_549 : BitVec 32 := 0#32
  let v682 : BitVec 1 := Scalar.cmpi .slt v678 c0_i32_549
  let v683 : BitVec 1 := Scalar.xori v681 v682
  let c0_i32_547 : BitVec 32 := 0#32
  let v680 : BitVec 1 := Scalar.cmpi .ne v679 c0_i32_547
  let v684 : BitVec 1 := Scalar.andi v683 v680
  let v685 : BitVec 32 := Scalar.addi v679 v678
  let v686 : BitVec 32 := Scalar.select v684 v685 v679
  let c1_i32_551 : BitVec 32 := 1#32
  let v687 : BitVec 32 := Scalar.muli v686 c1_i32_551
  let v688 : BitVec 32 := Scalar.addi c0_i32_552 v687
  v688.toNat
-- ==== ReferenceIdeal.lean ====
abbrev S2048x2048 : Shape := ⟨2, ![2048, 2048]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S_, .f32⟩
  | .hbm, ⟨14, _⟩ => ⟨S2048x2048, .f32⟩
  | .hbm, ⟨15, _⟩ => ⟨S2048x2048, .f32⟩
  | .hbm, ⟨16, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩

abbrev nD : Nat := 1
abbrev τ : Topo := Topo.v7x

variable {F : FTy → Type} [FloatOps F]
-- ==== SiluIdeal.lean ====
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.Geom.lean ====
/-
# The mesh arithmetic, the buffers' pieces and the semaphores of the kernel

Shifts on the ring of eight devices, the pieces of the buffers the kernel's transfers move (as sets of indices),
and which semaphore of the pools each of the kernel's semaphore operands names.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.ValueLayout
public import Idealize.ShloMosaic.Lib.Tactic

@[expose] public section

noncomputable section

namespace Cert.Gather

open Cert.KernelIdeal Cert.KernelIdeal.Gen
open Idealize.ShloMosaic
open Idealize.ShloMosaic.TcCoe

variable {F : FTy → Type} [FloatOps F]

/-! ## Shifts -/

set_option backward.proofsInPublic true in
/-- The device `k + 1` places after `c`. -/
def up (c : Dev nD) (k : Fin 7) : Dev nD := ⟨(c.val + k.val + 1) % 8, Nat.mod_lt _ (by decide)⟩
set_option backward.proofsInPublic true in
/-- The device `k + 1` places before `c`. -/
def dn (c : Dev nD) (k : Fin 7) : Dev nD := ⟨(c.val + 7 - k.val) % 8, Nat.mod_lt _ (by decide)⟩
set_option backward.proofsInPublic true in
/-- The shift that undoes `k`: going `k + 1` up and `rev k + 1` up is going round the ring. -/
def rev (k : Fin 7) : Fin 7 := ⟨6 - k.val, by omega⟩
set_option backward.proofsInPublic true in
/-- The device `e` places before `c`, `e` from 0 to 7. -/
def src (c : Dev nD) (e : Fin 8) : Dev nD := ⟨(c.val + 8 - e.val) % 8, Nat.mod_lt _ (by decide)⟩
/-- The shift whose block lies in column block `t` of the gathered operand. -/
def ord : Fin 8 → Fin 8 := ![0, 2, 6, 3, 5, 1, 7, 4]
/-- The column block of the gathered operand that the transfer of shift `k + 1` fills. -/
def slot : Fin 7 → Fin 8 := ![5, 1, 3, 7, 4, 2, 6]

theorem dn_up (c : Dev nD) (k : Fin 7) : dn (up c k) k = c := by revert c k; decide
theorem up_dn (c : Dev nD) (k : Fin 7) : up (dn c k) k = c := by revert c k; decide
theorem up_up_rev (c : Dev nD) (k : Fin 7) : up (up c k) (rev k) = c := by revert c k; decide
theorem up_rev_up (c : Dev nD) (k : Fin 7) : up (up c (rev k)) k = c := by revert c k; decide
theorem rev_rev (k : Fin 7) : rev (rev k) = k := by revert k; decide
theorem src_slot (c : Dev nD) (k : Fin 7) : src c (ord (slot k)) = dn c k := by revert c k; decide
theorem ord_slot (k : Fin 7) : (ord (slot k)).val = k.val + 1 := by revert k; decide
theorem src_zero (c : Dev nD) : src c 0 = c := by revert c; decide

theorem dev1_eq (c : Dev nD) : (⟨k0_dev1 c, k0_dev1_lt c⟩ : Dev nD) = up c 0 := by revert c; decide
theorem dev2_eq (c : Dev nD) : (⟨k0_dev2 c, k0_dev2_lt c⟩ : Dev nD) = up c 1 := by revert c; decide
theorem dev3_eq (c : Dev nD) : (⟨k0_dev3 c, k0_dev3_lt c⟩ : Dev nD) = up c 2 := by revert c; decide
theorem dev4_eq (c : Dev nD) : (⟨k0_dev4 c, k0_dev4_lt c⟩ : Dev nD) = up c 3 := by revert c; decide
theorem dev5_eq (c : Dev nD) : (⟨k0_dev5 c, k0_dev5_lt c⟩ : Dev nD) = up c 4 := by revert c; decide
theorem dev6_eq (c : Dev nD) : (⟨k0_dev6 c, k0_dev6_lt c⟩ : Dev nD) = up c 5 := by revert c; decide
theorem dev7_eq (c : Dev nD) : (⟨k0_dev7 c, k0_dev7_lt c⟩ : Dev nD) = up c 6 := by revert c; decide
theorem dev8_eq (c : Dev nD) : (⟨k0_dev8 c, k0_dev8_lt c⟩ : Dev nD) = up c 1 := by revert c; decide
theorem dev9_eq (c : Dev nD) : (⟨k0_dev9 c, k0_dev9_lt c⟩ : Dev nD) = up c 5 := by revert c; decide
theorem dev10_eq (c : Dev nD) : (⟨k0_dev10 c, k0_dev10_lt c⟩ : Dev nD) = up c 2 := by revert c; decide
theorem dev11_eq (c : Dev nD) : (⟨k0_dev11 c, k0_dev11_lt c⟩ : Dev nD) = up c 4 := by revert c; decide
theorem dev12_eq (c : Dev nD) : (⟨k0_dev12 c, k0_dev12_lt c⟩ : Dev nD) = up c 0 := by revert c; decide
theorem dev13_eq (c : Dev nD) : (⟨k0_dev13 c, k0_dev13_lt c⟩ : Dev nD) = up c 6 := by revert c; decide
theorem dev14_eq (c : Dev nD) : (⟨k0_dev14 c, k0_dev14_lt c⟩ : Dev nD) = up c 3 := by revert c; decide
theorem dev15_eq (c : Dev nD) : (⟨k0_dev15 c, k0_dev15_lt c⟩ : Dev nD) = dn c 1 := by revert c; decide
theorem dev16_eq (c : Dev nD) : (⟨k0_dev16 c, k0_dev16_lt c⟩ : Dev nD) = dn c 5 := by revert c; decide
theorem dev17_eq (c : Dev nD) : (⟨k0_dev17 c, k0_dev17_lt c⟩ : Dev nD) = dn c 2 := by revert c; decide
theorem dev18_eq (c : Dev nD) : (⟨k0_dev18 c, k0_dev18_lt c⟩ : Dev nD) = dn c 4 := by revert c; decide
theorem dev19_eq (c : Dev nD) : (⟨k0_dev19 c, k0_dev19_lt c⟩ : Dev nD) = dn c 0 := by revert c; decide
theorem dev20_eq (c : Dev nD) : (⟨k0_dev20 c, k0_dev20_lt c⟩ : Dev nD) = dn c 6 := by revert c; decide
theorem dev21_eq (c : Dev nD) : (⟨k0_dev21 c, k0_dev21_lt c⟩ : Dev nD) = dn c 3 := by revert c; decide

theorem off1_val (c : Dev nD) (e : Fin 8) : k0_off1 c (BitVec.ofNat 32 e.val) = ![(src c e).val * 256, 0] := by
  revert c e; decide
theorem off2_val (c : Dev nD) (k : Fin 7) : k0_off2 c (BitVec.ofNat 32 (1 + k.val)) = ![(up c k).val * 256, 0] := by
  revert c k; decide
theorem off3_val (c : Dev nD) : k0_off3 c = ![c.val * 256, 0] := by revert c; decide

/-! ## The memrefs -/

abbrev x0 : Memref sig .tc .hbm S2048x256 .f32 := Memref.whole main_arg0
abbrev w0 : Memref sig .tc .hbm S2048x2048 .f32 := Memref.whole main_arg1
abbrev o0 : Memref sig .tc .hbm S256x2048 .f32 := Memref.whole main_v1
abbrev xM : Memref sig .tc .vmem S2048x256 .f32 := Memref.whole cc0_scratch0
abbrev bM : Memref sig .tc .vmem S2048x256 .bf16 := Memref.whole cc0_scratch1
abbrev gM : Memref sig .tc .vmem S256x2048 .bf16 := Memref.whole cc0_scratch2
abbrev wM : Memref sig .tc .vmem S2x512x2048 .f32 := Memref.whole cc0_scratch3
abbrev aM : Memref sig .tc .vmem S256x2048 .f32 := Memref.whole cc0_scratch4

/-- The row block of the rounded operand sent at shift `k + 1`. -/
abbrev bV (c : Dev nD) (k : Fin 7) : Memref sig .tc .vmem S256x256 .bf16 :=
  bM.slice (Rect.unit (s := S2048x256) (k0_off2 c (BitVec.ofNat 32 (1 + k.val))) S256x256.size (k0_off2_inb c k)) (fun _ => rfl)

theorem inbG (t : Fin 8) : ∀ a, (![0, 256 * t.val] : Fin 2 → Nat) a + S256x256.size a ≤ S256x2048.size a := by
  revert t; decide
/-- Column block `t` of the gathered operand. -/
abbrev gV (t : Fin 8) : Memref sig .tc .vmem S256x256 .bf16 :=
  gM.slice (Rect.unit (s := S256x2048) ![0, 256 * t.val] S256x256.size (inbG t)) (fun _ => rfl)

/-- The row block of the weights multiplied with the block from `e` places before. -/
abbrev wSrc (c : Dev nD) (e : Fin 8) : Memref sig .tc .hbm S256x2048 .f32 :=
  w0.slice (Rect.unit (s := S2048x2048) (k0_off1 c (BitVec.ofNat 32 e.val)) S256x2048.size (k0_off1_inb c e)) (fun _ => rfl)

theorem inbW (p : Fin 2 × Fin 2) : ∀ a, (![p.1.val, 256 * p.2.val, 0] : Fin 3 → Nat) a + S1x256x2048.size a ≤ S2x512x2048.size a := by
  revert p; decide
/-- Half `p.2` of slot `p.1` of the weights' buffer. -/
abbrev wV (p : Fin 2 × Fin 2) : Memref sig .tc .vmem S256x2048 .f32 :=
  (wM.slice (Rect.unit (s := S2x512x2048) ![p.1.val, 256 * p.2.val, 0] S1x256x2048.size (inbW p)) (fun _ => rfl)).squeeze
    S256x2048 squeezes_S1x256x2048_S256x2048

/-! ## The pieces, as sets of indices -/

/-- Row block `e` places after `c`. -/
def rowsB (c : Dev nD) (e : Fin 8) : Finset S2048x256.Idx := Finset.univ.filter fun i => (i 0).val / 256 = (c.val + e.val) % 8
/-- Column block `t`. -/
def colsG (t : Fin 8) : Finset S256x2048.Idx := Finset.univ.filter fun i => (i 1).val / 256 = t.val
/-- The row block of the weights of the device `e` places before `c`. -/
def rowsW (c : Dev nD) (e : Fin 8) : Finset S2048x2048.Idx := Finset.univ.filter fun i => (i 0).val / 256 = (src c e).val
/-- Half `p.2` of slot `p.1`. -/
def halfW (p : Fin 2 × Fin 2) : Finset S2x512x2048.Idx := Finset.univ.filter fun i => (i 0).val = p.1.val ∧ (i 1).val / 256 = p.2.val

theorem mem_rowsB {c : Dev nD} {e : Fin 8} {i : S2048x256.Idx} : i ∈ rowsB c e ↔ (i 0).val / 256 = (c.val + e.val) % 8 := by
  unfold rowsB; rw [Finset.mem_filter]; exact and_iff_right (Finset.mem_univ _)
theorem mem_colsG {t : Fin 8} {i : S256x2048.Idx} : i ∈ colsG t ↔ (i 1).val / 256 = t.val := by
  unfold colsG; rw [Finset.mem_filter]; exact and_iff_right (Finset.mem_univ _)
theorem mem_rowsW {c : Dev nD} {e : Fin 8} {i : S2048x2048.Idx} : i ∈ rowsW c e ↔ (i 0).val / 256 = (src c e).val := by
  unfold rowsW; rw [Finset.mem_filter]; exact and_iff_right (Finset.mem_univ _)
theorem mem_halfW {p : Fin 2 × Fin 2} {i : S2x512x2048.Idx} : i ∈ halfW p ↔ ((i 0).val = p.1.val ∧ (i 1).val / 256 = p.2.val) := by
  unfold halfW; rw [Finset.mem_filter]; exact and_iff_right (Finset.mem_univ _)

theorem bV_set (c : Dev nD) (k : Fin 7) : (bV c k).view.set = rowsB c k.succ := by
  refine (View.set_slice_whole _ _).trans ?_
  ext i
  rw [mem_rowsB]
  refine (Rect.mem_set_unit (s := S2048x256)).trans ?_
  rw [off2_val]
  refine Fin.forall_fin_two.trans ?_
  have h1 : (i 1).val < 256 := (i 1).isLt
  have h2 : (up c k).val = (c.val + k.succ.val) % 8 := by simp [up, Fin.val_succ, Nat.add_assoc]
  show ((up c k).val * 256 ≤ (i 0).val ∧ (i 0).val < (up c k).val * 256 + 256) ∧ (0 ≤ (i 1).val ∧ (i 1).val < 0 + 256) ↔ _
  rw [← h2]; omega

theorem gV_set (t : Fin 8) : (gV t).view.set = colsG t := by
  refine (View.set_slice_whole _ _).trans ?_
  ext i
  rw [mem_colsG]
  refine (Rect.mem_set_unit (s := S256x2048)).trans ?_
  refine Fin.forall_fin_two.trans ?_
  have h1 : (i 0).val < 256 := (i 0).isLt
  show (0 ≤ (i 0).val ∧ (i 0).val < 0 + 256) ∧ (256 * t.val ≤ (i 1).val ∧ (i 1).val < 256 * t.val + 256) ↔ _
  omega

theorem wSrc_set (c : Dev nD) (e : Fin 8) : (wSrc c e).view.set = rowsW c e := by
  refine (View.set_slice_whole _ _).trans ?_
  ext i
  rw [mem_rowsW]
  refine (Rect.mem_set_unit (s := S2048x2048)).trans ?_
  rw [off1_val]
  refine Fin.forall_fin_two.trans ?_
  have h1 : (i 1).val < 2048 := (i 1).isLt
  show ((src c e).val * 256 ≤ (i 0).val ∧ (i 0).val < (src c e).val * 256 + 256) ∧ (0 ≤ (i 1).val ∧ (i 1).val < 0 + 2048) ↔ _
  omega

theorem wV_set (p : Fin 2 × Fin 2) : (wV p).view.set = halfW p := by
  refine (View.set_reshape _ _).trans ?_
  refine (View.set_slice_whole _ _).trans ?_
  ext i
  rw [mem_halfW]
  refine (Rect.mem_set_unit (s := S2x512x2048)).trans ?_
  refine Fin.forall_fin_succ.trans ?_
  refine (and_congr Iff.rfl Fin.forall_fin_two).trans ?_
  have h1 : (i 2).val < 2048 := (i 2).isLt
  show (p.1.val ≤ (i 0).val ∧ (i 0).val < p.1.val + 1) ∧ (256 * p.2.val ≤ (i 1).val ∧ (i 1).val < 256 * p.2.val + 256) ∧
    (0 ≤ (i 2).val ∧ (i 2).val < 0 + 2048) ↔ _
  omega

/-! ## The semaphores -/

/-- The send, receive, weight, operand and output semaphores of the pool. -/
abbrev sendQ (k : Fin 7) : DmaSem sig := ⟨k.val, by have := k.isLt; show _ < 21; omega⟩
abbrev recvQ (k : Fin 7) : DmaSem sig := ⟨7 + k.val, by have := k.isLt; show _ < 21; omega⟩
abbrev wQ (p : Fin 2 × Fin 2) : DmaSem sig := ⟨14 + 2 * p.1.val + p.2.val, by have := p.1.isLt; have := p.2.isLt; show _ < 21; omega⟩
abbrev xQ : DmaSem sig := ⟨18, by decide⟩
abbrev oQ : DmaSem sig := ⟨19, by decide⟩
/-- The runtime's barrier semaphore and the kernel's credit semaphore. -/
abbrev barS : Sem sig := (SemArray.scalar (sig.barrier 0 rfl) : Sems sig S_).sem
abbrev credS : Sem sig := (cc0_scratch10 : Sems sig S_).sem

end Cert.Gather
end
-- ==== Proof.Sched.lean ====
/-
# The protocol of the eight devices

Every device signals the runtime's barrier semaphore of the seven others: the signal to the device `k + 1` places
after it hands over the piece of its own gather buffer which that device will fill. The device waits for seven such
signals and then holds, for each shift, the piece of the gather buffer of the device `k + 1` places after it. Its
transfer of shift `k + 1` fills that piece with its rounded row block and gives it to the receiver on the receive
semaphore; the send semaphore gives the source row block back. At the end every device signals the credit semaphore of
each device it has received from. One round per semaphore.
-/
module

public import proofs.«01_k».proof.Proof.Geom
public import Idealize.ShloMosaic.Lib.Transfers

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3)

variable {F : FTy → Type} [FloatOps F]

/-! ## The resource algebra -/

abbrev UB : Type := URounds (GSem nD τ sig) (Fin 7)
abbrev UU : Type := UR sig nD τ × (UB × Counters)

local notation "𝕄" => MT nD τ sig Unit (Elt F) ℕ UU ℕ

abbrev EP : Emb (UR sig nD τ) (MT nD τ sig Unit (Elt F) ℕ UU ℕ) := embL
/-- The rounds library of the kernel's cells: the left half of the right factor. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance

/-! ## The cells -/

abbrev barCell (c : Dev nD) : GSem nD τ sig := ((c : Thread nD τ), .reg barS)
abbrev credCell (c : Dev nD) : GSem nD τ sig := ((c : Thread nD τ), .reg credS)
abbrev sendCell (c : Dev nD) (k : Fin 7) : GSem nD τ sig := ((c : Thread nD τ), .dma (sendQ k))
abbrev recvCell (c : Dev nD) (k : Fin 7) : GSem nD τ sig := ((c : Thread nD τ), .dma (recvQ k))

/-- The sixteen cells of a device the protocol uses: seven send, seven receive, the credit, the barrier. -/
def csem (i : Fin 16) : SemLoc sig :=
  if h : i.val < 14 then .dma ⟨i.val, by show _ < 21; omega⟩ else if i.val = 14 then .reg credS else .reg barS
abbrev kcell (ci : Dev nD × Fin 16) : GSem nD τ sig := ((ci.1 : Thread nD τ), csem ci.2)

theorem kcell_send (c : Dev nD) (k : Fin 7) : kcell (c, ⟨k.val, by omega⟩) = sendCell c k := by fin_cases k <;> rfl
theorem kcell_recv (c : Dev nD) (k : Fin 7) : kcell (c, ⟨7 + k.val, by omega⟩) = recvCell c k := by fin_cases k <;> rfl
theorem kcell_cred (c : Dev nD) : kcell (c, 14) = credCell c := rfl
theorem kcell_bar (c : Dev nD) : kcell (c, 15) = barCell c := rfl

/-- The credit of one block's transfer. -/
abbrev N : ℕ := (gV 0).view.dmaCredit
theorem N_pos : 0 < N := View.dmaCredit_pos _ (by decide)

/-! ## Contents -/

variable (m : (ℓ : Loc nD τ sig) → Buf (Elt F) ℓ) (ρ : Dev nD → PrngReg)

/-- Device `c`'s column block of `x` and its weights. -/
def xC (c : Dev nD) : Vec F S2048x256 .f32 := m ((c : Thread nD τ).loc main_arg0)
def wC (c : Dev nD) : Vec F S2048x2048 .f32 := m ((c : Thread nD τ).loc main_arg1)
/-- The column block, rounded. -/
def xbC (c : Dev nD) : Vec F S2048x256 .bf16 := k0_pay1 (xC m c)

theorem div8 (i : Fin 2048) : i.val / 256 < 8 := by omega
theorem row_lt (c : Dev nD) (j : Nat) (h : j < 256) : c.val * 256 + j < 2048 := by have : c.val < 8 := c.isLt; omega
theorem ch_lt (ch : Fin 4) (i : Fin 512) : 2 * ch.val + i.val / 256 < 8 := by omega
theorem col_lt (ch : Fin 4) (i : Fin 512) : 512 * ch.val + i.val < 2048 := by omega

set_option backward.proofsInPublic true in
/-- The gathered operand: column block `t` holds row block `c` of the device `ord t` places before `c`. -/
def gxC (c : Dev nD) : Vec F S256x2048 .bf16 := fun i =>
  xbC m (src c (ord ⟨(i 1).val / 256, div8 (i 1)⟩))
    (ix2 ⟨c.val * 256 + (i 0).val, row_lt c _ (i 0).isLt⟩ ⟨(i 1).val % 256, Nat.mod_lt _ (by decide)⟩)
set_option backward.proofsInPublic true in
/-- The weights of step `ch`: its two halves hold the row blocks of the devices whose blocks are multiplied with it. -/
def wbC (c : Dev nD) (ch : Fin 4) : Vec F S2x512x2048 .f32 := fun i =>
  wC m c (ix2 ⟨(src c (ord ⟨2 * ch.val + (i 1).val / 256, ch_lt ch (i 1)⟩)).val * 256 + (i 1).val % 256,
    row_lt _ _ (Nat.mod_lt _ (by decide))⟩ (i 2))
set_option backward.proofsInPublic true in
/-- The columns of the gathered operand multiplied at step `ch`. -/
def gCh (c : Dev nD) (ch : Fin 4) : Vec F S256x512 .bf16 := fun i => gxC m c (ix2 (i 0) ⟨512 * ch.val + (i 1).val, col_lt ch (i 1)⟩)
set_option backward.proofsInPublic true in
/-- The weights multiplied at step `ch`. -/
def wCh (c : Dev nD) (ch : Fin 4) : Vec F S1x512x2048 .f32 := fun i => wbC m c ch (ix3 ⟨ch.val % 2, Nat.mod_lt _ (by decide)⟩ (i 1) (i 2))

/-- The sum after each step, and the result. -/
def acc0 (c : Dev nD) : Vec F S256x2048 .f32 := k0_pay3 (gCh m c 0) (wCh m c 0)
def acc1 (c : Dev nD) : Vec F S256x2048 .f32 := k0_pay4 (gCh m c 1) (wCh m c 1) (acc0 m c)
def acc2 (c : Dev nD) : Vec F S256x2048 .f32 := k0_pay5 (gCh m c 2) (wCh m c 2) (acc1 m c)
def acc3 (c : Dev nD) : Vec F S256x2048 .f32 := k0_pay6 (gCh m c 3) (wCh m c 3) (acc2 m c)
def outC (c : Dev nD) : Vec F S256x2048 .f32 := k0_pay7 (acc3 m c)

/-! ## Pieces of the buffers -/

/-- Device `c` holds the elements `I` of its buffer `b` with contents `f`. -/
abbrev pc (c : Dev nD) (b : Ref sig .tc) (I : Finset b.ty.Idx) (f : b.ty.Contents (Elt F)) : sProp 𝕄 :=
  ((c : Thread nD τ).loc b) ↦[I]{fullShare} f

/-! ## The schedule -/

/-- What the signal of the device `j + 1` places after `c` hands to `c`: that device's piece of the gather buffer, and
    that its receive cell is at round 0. -/
def barPay (c : Dev nD) (j : Fin 7) : sProp 𝕄 :=
  iprop((∃ f, pc (up c j) cc0_scratch2 (colsG (slot j)) f) ∗ reached ER (recvCell (up c j) j) 0)
/-- What the transfer of shift `k + 1` gives the receiver `c`, -/
def recvPay (c : Dev nD) (k : Fin 7) : sProp 𝕄 := pc c cc0_scratch2 (colsG (slot k)) (gxC m c)
/-- and gives back to the sender `c`. -/
def sendPay (c : Dev nD) (k : Fin 7) : sProp 𝕄 := pc c cc0_scratch1 (rowsB c k.succ) (xbC m c)

set_option backward.proofsInPublic true in
/-- One round: the barrier and credit cells have a unit from each of the seven others, the send and receive cells the
    credit of their one transfer. -/
def Rd : Rounds.Schedule (GSem nD τ sig) (Fin 7) 𝕄 where
  duties g r := if r = 0 ∧ g.1.2 = .tc then
      (match g.2 with
       | .reg _ => Finset.univ
       | .dma q => if q.val < 14 then {0} else ∅)
    else ∅
  unitless _ := False
  amount g _ _ := match g.2 with
    | .reg _ => 1
    | .dma _ => N
  payload g _ d := match g.2 with
    | .reg s => if s = barS then barPay g.1.1 d else iprop(emp)
    | .dma q => if h : q.val < 7 then sendPay m g.1.1 ⟨q.val, h⟩
        else if h : q.val - 7 < 7 then recvPay m g.1.1 ⟨q.val - 7, h⟩ else iprop(emp)
  amount_pos g _ _ _ := by
    rcases g with ⟨_, _ | _⟩
    · exact Nat.one_pos
    · exact N_pos

instance Rd_storable (g : GSem nD τ sig) (r : ℕ) (d : Fin 7) :
    BI.Storable (upEmb : UEmb _ 𝕄) ((Rd (F := F) m).payload g r d) := by
  rcases g with ⟨t, s | q⟩
  · show BI.Storable upEmb (if s = barS then barPay t.1 d else iprop(emp))
    unfold barPay
    split <;> infer_instance
  · show BI.Storable upEmb (if h : q.val < 7 then sendPay m t.1 ⟨q.val, h⟩
        else if h : q.val - 7 < 7 then recvPay m t.1 ⟨q.val - 7, h⟩ else iprop(emp))
    unfold sendPay recvPay
    (repeat' split) <;> infer_instance

section Facts
variable (c : Dev nD) (k : Fin 7)

theorem cred_ne_bar : (credS : Sem sig) ≠ barS := by decide

theorem duties_bar : (Rd (F := F) m).duties (barCell c) 0 = Finset.univ := rfl
theorem duties_cred : (Rd (F := F) m).duties (credCell c) 0 = Finset.univ := rfl
theorem duties_send : (Rd (F := F) m).duties (sendCell c k) 0 = {0} := by fin_cases k <;> rfl
theorem duties_recv : (Rd (F := F) m).duties (recvCell c k) 0 = {0} := by fin_cases k <;> rfl
theorem duties_later (g : GSem nD τ sig) : ∀ r, 1 ≤ r → (Rd (F := F) m).duties g r = ∅ :=
  fun r hr => by dsimp only [Rd]; rw [if_neg fun h => by omega]

theorem expect_bar : (Rd (F := F) m).expect (barCell c) 0 = 7 := by
  unfold Schedule.expect Schedule.amountOf; rw [duties_bar]; rfl
theorem expect_cred : (Rd (F := F) m).expect (credCell c) 0 = 7 := by
  unfold Schedule.expect Schedule.amountOf; rw [duties_cred]; rfl
theorem expect_send : (Rd (F := F) m).expect (sendCell c k) 0 = N := by
  unfold Schedule.expect Schedule.amountOf; rw [duties_send, Finset.sum_singleton]; rfl
theorem expect_recv : (Rd (F := F) m).expect (recvCell c k) 0 = N := by
  unfold Schedule.expect Schedule.amountOf; rw [duties_recv, Finset.sum_singleton]; rfl

theorem payload_bar (j : Fin 7) : (Rd (F := F) m).payload (barCell c) 0 j = barPay c j := by dsimp only [Rd]; exact if_pos rfl
theorem payload_cred (j : Fin 7) : (Rd (F := F) m).payload (credCell c) 0 j = iprop(emp) := by dsimp only [Rd]; exact if_neg cred_ne_bar
theorem payload_send (d : Fin 7) : (Rd (F := F) m).payload (sendCell c k) 0 d = sendPay m c k := by
  dsimp only [Rd]; exact dif_pos k.isLt
theorem payload_recv (d : Fin 7) : (Rd (F := F) m).payload (recvCell c k) 0 d = recvPay m c k := by
  fin_cases k <;> rfl

theorem rest_bar : bigSep ((Rd (F := F) m).duties (barCell c) 0 \ ∅) (fun d => (Rd (F := F) m).payload (barCell c) 0 d)
    = iprop(barPay c 0 ∗ barPay c 1 ∗ barPay c 2 ∗ barPay c 3 ∗ barPay c 4 ∗ barPay c 5 ∗ barPay c 6) := by
  rw [Finset.sdiff_empty, duties_bar, bigSep_univ_eq_bigSepL [0, 1, 2, 3, 4, 5, 6] (by decide) (by decide)]
  simp only [payload_bar]
  rfl
theorem rest_send : bigSep ((Rd (F := F) m).duties (sendCell c k) 0 \ ∅) (fun d => (Rd (F := F) m).payload (sendCell c k) 0 d) = sendPay m c k := by
  rw [Finset.sdiff_empty, duties_send, bigSep_singleton, payload_send]
theorem rest_recv : bigSep ((Rd (F := F) m).duties (recvCell c k) 0 \ ∅) (fun d => (Rd (F := F) m).payload (recvCell c k) 0 d) = recvPay m c k := by
  rw [Finset.sdiff_empty, duties_recv, bigSep_singleton, payload_recv]

end Facts

/-! ## What a device owes, in the order it pays; the levels -/

/-- The sum of a list of debts, the first one the last summand. -/
def owedL : List (GSem nD τ sig × ℕ) → CellTallies nD τ sig Unit
  | [] => 0
  | p :: l => owedL l + tallyAt p.1 () p.2

/-- Device `c`'s debts in program order: the barrier signals, the transfers, the credit signals. -/
def dues (c : Dev nD) : List (GSem nD τ sig × ℕ) :=
  [(barCell (up c 0), 1), (barCell (up c 1), 1), (barCell (up c 2), 1), (barCell (up c 3), 1), (barCell (up c 4), 1),
   (barCell (up c 5), 1), (barCell (up c 6), 1),
   (recvCell (up c 1) 1, N), (recvCell (up c 5) 5, N), (recvCell (up c 2) 2, N), (recvCell (up c 4) 4, N),
   (recvCell (up c 0) 0, N), (recvCell (up c 6) 6, N), (recvCell (up c 3) 3, N),
   (credCell (dn c 1), 1), (credCell (dn c 5), 1), (credCell (dn c 2), 1), (credCell (dn c 4), 1), (credCell (dn c 0), 1),
   (credCell (dn c 6), 1), (credCell (dn c 3), 1)]

/-- Device `c` owes all but its first `n` debts. -/
def Ow (c : Dev nD) (n : ℕ) : sProp 𝕄 := iprop(∃ W, owes (c : Thread nD τ) (owedL ((dues c).drop n)) W)

def L (g : GSem nD τ sig) : Finset Unit := if g.1.2 = .tc then {()} else ∅
set_option backward.proofsInPublic true in
/-- Barrier cells at 1, receive cells at 2, credit cells at 3, every other cell at 0. -/
def lv (g : GSem nD τ sig) (_ : Unit) : ℕ := match g.2 with
  | .reg s => if s = barS then 1 else 3
  | .dma q => if 7 ≤ q.val ∧ q.val < 14 then 2 else 0

theorem L_of_ne (g : GSem nD τ sig) (h : g.1.2 ≠ .tc) : L g = ∅ := if_neg h
theorem L_tc (c : Dev nD) (sm : SemLoc sig) : L ((c : Thread nD τ), sm) = {()} := if_pos rfl

/-- Whatever a list of debts owes anything to is a cell of the list. -/
theorem owedL_pos {l : List (GSem nD τ sig × ℕ)} {g : GSem nD τ sig} {u : Unit} (h : 0 < owedL l g u) : ∃ p ∈ l, p.1 = g := by
  induction l with
  | nil => exact absurd h (Nat.lt_irrefl 0)
  | cons p l ih =>
    unfold owedL at h
    rw [Pi.add_apply, Finsupp.add_apply] at h
    by_cases h0 : 0 < owedL l g u
    · obtain ⟨q, hq, e⟩ := ih h0; exact ⟨q, List.mem_cons_of_mem _ hq, e⟩
    · refine ⟨p, List.mem_cons_self, ?_⟩
      by_contra hn
      rw [tallyAt_apply, if_neg (fun h' => hn h'.1.symm)] at h
      exact h0 (by simpa using h)

theorem dues_tc (c : Dev nD) : ∀ p ∈ dues c, L p.1 = {()} := by
  unfold dues
  simp only [List.forall_mem_cons, List.not_mem_nil, false_imp_iff, implies_true, and_true]
  refine ⟨?_, ?_, ?_, ?_, ?_, ?_, ?_, ?_, ?_, ?_, ?_, ?_, ?_, ?_, ?_, ?_, ?_, ?_, ?_, ?_, ?_⟩ <;> exact L_tc _ _

/-- A device may wait on a cell below every cell it owes. -/
theorem mayWait (c : Dev nD) (sm : SemLoc sig) (n k : ℕ) (hk : lv ((c : Thread nD τ), sm) () ≤ k)
    (h : ∀ p ∈ (dues c).drop n, k < lv p.1 ()) :
    (levAts L lv : sProp 𝕄) ⊢ MayWait (c : Thread nD τ) sm () (owedL ((dues c).drop n)) :=
  MayOwe.of_cut (L := L) (lev := lv) k (fun p hp => by rw [Finset.mem_singleton.mp hp, L_tc]; exact Finset.mem_singleton_self _)
    (fun g u hg => by
      obtain ⟨p, hp, rfl⟩ := owedL_pos hg
      rw [dues_tc c p (List.mem_of_mem_drop hp)]; exact Finset.mem_singleton_self _)
    (fun p hp => by rw [Finset.mem_singleton.mp hp]; exact hk)
    (fun g u hg => by obtain ⟨p, hp, rfl⟩ := owedL_pos hg; exact h p hp)

theorem lv_recv (d : Dev nD) (k : Fin 7) : lv (recvCell d k) () = 2 := by
  dsimp only [lv]; rw [if_pos ⟨Nat.le_add_right _ _, by have := k.isLt; omega⟩]
theorem lv_cred (d : Dev nD) : lv (credCell d) () = 3 := by dsimp only [lv]; exact if_neg cred_ne_bar
theorem lv_bar (d : Dev nD) : lv (barCell d) () = 1 := by dsimp only [lv]; exact if_pos rfl

/-- Before its first transfer a device owes no cell at level 1 or below but barrier cells; -/
theorem levels_bar (c : Dev nD) : ∀ p ∈ (dues c).drop 7, 1 < lv p.1 () := by
  unfold dues
  simp only [List.drop_succ_cons, List.drop_zero, List.forall_mem_cons, List.not_mem_nil, false_imp_iff, implies_true, and_true,
    lv_recv, lv_cred]
  decide
/-- after its transfers it owes credit cells only. -/
theorem levels_cred (c : Dev nD) (n : ℕ) (hn : 14 ≤ n) : ∀ p ∈ (dues c).drop n, 2 < lv p.1 () := by
  have h : ∀ p ∈ (dues c).drop 14, 2 < lv p.1 () := by
    unfold dues
    simp only [List.drop_succ_cons, List.drop_zero, List.forall_mem_cons, List.not_mem_nil, false_imp_iff, implies_true, and_true,
      lv_cred]
    decide
  intro p hp
  obtain ⟨j, rfl⟩ := Nat.exists_eq_add_of_le hn
  rw [← List.drop_drop] at hp
  exact h p (List.mem_of_mem_drop hp)

end Cert.Gather
end
-- ==== Proof.Steps.lean ====
/-
# The protocol's steps

What every device knows throughout (the cells' invariants, the levels), and one rule for each kind of operation of the
kernel that another device takes part in: the barrier signals and wait, the transfers and their waits, the credit
signals and wait.
-/
module

public import proofs.«01_k».proof.Proof.Sched

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3)

variable {F : FTy → Type} [FloatOps F]

local notation "𝕄" => MT nD τ sig Unit (Elt F) ℕ UU ℕ

variable (m : (ℓ : Loc nD τ sig) → Buf (Elt F) ℓ)

/-! ## What every device knows -/

/-- A cell's invariant stands and its round 0 has been reached. -/
def known (g : GSem nD τ sig) : sProp 𝕄 := iprop(∃ κ : ℕ, cellInv ER (Rd m) κ g ∗ reached ER g 0)
instance known_persistent (g : GSem nD τ sig) : BI.Persistent (known (F := F) m g) := by unfold known; infer_instance

/-- The sixteen cells of every device, and the levels. -/
def env : sProp 𝕄 := iprop((bigSep Finset.univ fun ci : Dev nD × Fin 16 => known m (kcell ci)) ∗ levAts L lv)
instance env_persistent : BI.Persistent (env (F := F) m) := by unfold env; infer_instance

theorem env_cell (ci : Dev nD × Fin 16) : env (F := F) m ⊢ known m (kcell ci) := by
  unfold env
  iintro ⟨H, -⟩
  iapply (show (bigSep Finset.univ fun ci : Dev nD × Fin 16 => (known m (kcell ci) : sProp 𝕄)) ⊢ known m (kcell ci) from bigSep_elim (Finset.mem_univ ci))
  iexact H
theorem env_levels : env (F := F) m ⊢ levAts L lv := by
  unfold env; iintro ⟨-, H⟩; iexact H
theorem env_send (c : Dev nD) (k : Fin 7) : env (F := F) m ⊢ known m (sendCell c k) := by
  rw [← kcell_send]; exact env_cell m _
theorem env_recv (c : Dev nD) (k : Fin 7) : env (F := F) m ⊢ known m (recvCell c k) := by
  rw [← kcell_recv]; exact env_cell m _
theorem env_cred (c : Dev nD) : env (F := F) m ⊢ known m (credCell c) := env_cell m (c, 14)
theorem env_bar (c : Dev nD) : env (F := F) m ⊢ known m (barCell c) := env_cell m (c, 15)

abbrev 𝒱₀ : Variants := Variants.none

/-- The weakest precondition of a program of device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- The piece of the gather buffer of the device `k + 1` places after `c` that `c`'s transfer fills. -/
def hole (c : Dev nD) (k : Fin 7) : sProp 𝕄 := iprop(∃ f, pc (F := F) (up c k) cc0_scratch2 (colsG (slot k)) f)

variable {α : Type} {Q : α → sProp (MT nD τ sig Unit (Elt F) ℕ UU ℕ)} {kk : PUnit → Prog (TpuEff nD τ sig (Elt F) Λ₀ .tc) α}

theorem owed_bar (c : Dev nD) (k : Fin 7) :
    owedL ((dues c).drop k.val) = owedL ((dues c).drop (k.val + 1)) + tallyAt (barCell (up c k)) () 1 :=
  match k with
  | 0 => rfl | 1 => rfl | 2 => rfl | 3 => rfl | 4 => rfl | 5 => rfl | 6 => rfl

/-- The barrier signal to the device `k + 1` places after, which hands over the piece that device will fill. -/
theorem step_bar (c : Dev nD) (k : Fin 7) (dst : Dev nD) (hdst : dst = up c k) (a : ℤ) (ha : a = ((1 : ℕ) : ℤ))
    (f : cc0_scratch2.ty.Contents (Elt F)) :
    iprop(env m ∗ Ow c k.val ∗ dutyTok ER (barCell (up c k)) 0 (rev k) ∗ pc c cc0_scratch2 (colsG (slot (rev k))) f)
      ⊢ iprop((Ow c (k.val + 1) -∗ WP c (kk ⟨⟩) Q) -∗ WP c (.op (.semSignal (dst : Thread nD τ) barS a) kk) Q) := by
  subst hdst ha
  unfold Ow
  iintro ⟨#He, ⟨%W, HO⟩, Ht, Hp⟩ Hk
  ihave #Hb := (env_bar m (up c k)) $$ He
  ihave #Hr := (env_recv m c (rev k)) $$ He
  unfold known
  icases Hb with ⟨%κ, #Hi, #Hre⟩
  icases Hr with ⟨%κ', #Hi', #Hre'⟩
  iapply (Rounds.wp_signal 𝒱₀ ER (Rd m) (c : Thread nD τ) none (dst := (up c k : Thread nD τ)) (κ := κ)
      (d := rev k) (by rw [duties_bar]; exact Finset.mem_univ _) (k' := 1) rfl () (owedL ((dues c).drop (k.val + 1)))
      (owed_bar c k)) $$ [HO Ht Hp]
  · isplitr; · iexact Hi
    isplitl [HO]; · iexact HO
    isplitl [Ht]; · iexact Ht
    isplitl [Hp]
    · rw [payload_bar]; unfold barPay; rw [up_up_rev]
      isplitl [Hp]; · iexists f; iexact Hp
      iexact Hre'
    iexact Hre
  iintro HO
  iapply Hk
  iexists W; iexact HO

/-- The barrier wait: the seven pieces to fill. -/
theorem step_barwait (c : Dev nD) (a : ℤ) (ha : a = ((7 : ℕ) : ℤ)) :
    iprop(env m ∗ Ow c 7 ∗ cred (tallyAt (barCell c) () 7) ∗ atPos ER (barCell c) 0 ∅ 0)
      ⊢ iprop(((Ow c 7 ∗ atPos ER (barCell c) 1 ∅ 0 ∗ hole (F := F) c 0 ∗ hole (F := F) c 1 ∗ hole (F := F) c 2 ∗ hole (F := F) c 3
            ∗ hole (F := F) c 4 ∗ hole (F := F) c 5 ∗ hole (F := F) c 6) -∗ WP c (kk ⟨⟩) Q)
          -∗ WP c (.op (.semWait barS a) kk) Q) := by
  subst ha
  unfold Ow
  iintro ⟨#He, ⟨%W, HO⟩, Hc, Ha⟩ Hk
  ihave #Hb := (env_bar m c) $$ He
  unfold known
  icases Hb with ⟨%κ, #Hi, #Hre⟩
  iapply (Rounds.wp_wait_rest_token 𝒱₀ ER (Rd m) (c : Thread nD τ) none (κ := κ)
      (wpE_semWait_eq 𝒱₀ (c : Thread nD τ) none Set.univ) (Set.mem_univ _) () (O := owedL ((dues c).drop 7)) (W := W) (R := 0) (m := 0) (T := ∅)
      (by rw [expect_bar])) $$ [Hc HO Ha]
  · isplitr; · iexact Hi
    isplitl [Hc]; · iexact Hc
    isplitl [HO]; · iexact HO
    isplitr
    · iapply (mayWait c (.reg barS) 7 1 (le_of_eq (lv_bar c)) (levels_bar c)); iapply (env_levels m); iexact He
    iexact Ha
  iintro ⟨HO, Ha, -, Hpay⟩
  ihave Hp := (Entails.of_eq (rest_bar m c)) $$ Hpay
  unfold barPay
  icases Hp with ⟨⟨H0, -⟩, ⟨H1, -⟩, ⟨H2, -⟩, ⟨H3, -⟩, ⟨H4, -⟩, ⟨H5, -⟩, ⟨H6, -⟩⟩
  iapply Hk
  unfold hole
  isplitl [HO]; · iexists _; iexact HO
  isplitl [Ha]; · iexact Ha
  isplitl [H0]; · iexact H0
  isplitl [H1]; · iexact H1
  isplitl [H2]; · iexact H2
  isplitl [H3]; · iexact H3
  isplitl [H4]; · iexact H4
  isplitl [H5]; · iexact H5
  iexact H6

/-- A credit signal to the device `j + 1` places before. -/
theorem step_cred (c : Dev nD) (n : ℕ) (j : Fin 7) (dst : Dev nD) (hdst : dst = dn c j) (a : ℤ) (ha : a = ((1 : ℕ) : ℤ))
    (hO : owedL ((dues c).drop n) = owedL ((dues c).drop (n + 1)) + tallyAt (credCell (dn c j)) () 1) :
    iprop(env m ∗ Ow c n ∗ dutyTok ER (credCell (dn c j)) 0 j)
      ⊢ iprop((Ow c (n + 1) -∗ WP c (kk ⟨⟩) Q) -∗ WP c (.op (.semSignal (dst : Thread nD τ) credS a) kk) Q) := by
  subst hdst ha
  unfold Ow
  iintro ⟨#He, ⟨%W, HO⟩, Ht⟩ Hk
  ihave #Hb := (env_cred m (dn c j)) $$ He
  unfold known
  icases Hb with ⟨%κ, #Hi, #Hre⟩
  iapply (Rounds.wp_signal 𝒱₀ ER (Rd m) (c : Thread nD τ) none (dst := (dn c j : Thread nD τ)) (κ := κ)
      (d := j) (by rw [duties_cred]; exact Finset.mem_univ _) (k' := 1) rfl () (owedL ((dues c).drop (n + 1))) hO) $$ [HO Ht]
  · isplitr; · iexact Hi
    isplitl [HO]; · iexact HO
    isplitl [Ht]; · iexact Ht
    isplitr; · rw [payload_cred]; iempintro
    iexact Hre
  iintro HO
  iapply Hk
  iexists W; iexact HO

/-- The credit wait, the last. -/
theorem step_credwait (c : Dev nD) (a : ℤ) (ha : a = ((7 : ℕ) : ℤ)) :
    iprop(env m ∗ Ow c 21 ∗ cred (tallyAt (credCell c) () 7) ∗ atPos ER (credCell c) 0 ∅ 0)
      ⊢ iprop(((Ow c 21 ∗ atPos ER (credCell c) 1 ∅ 0) -∗ WP c (kk ⟨⟩) Q)
          -∗ WP c (.op (.semWait credS a) kk) Q) := by
  subst ha
  unfold Ow
  iintro ⟨#He, ⟨%W, HO⟩, Hc, Ha⟩ Hk
  ihave #Hb := (env_cred m c) $$ He
  unfold known
  icases Hb with ⟨%κ, #Hi, #Hre⟩
  iapply (Rounds.wp_wait_rest_token 𝒱₀ ER (Rd m) (c : Thread nD τ) none (κ := κ)
      (wpE_semWait_eq 𝒱₀ (c : Thread nD τ) none Set.univ) (Set.mem_univ _) () (O := 0) (W := W) (R := 0) (m := 0) (T := ∅)
      (by rw [expect_cred])) $$ [Hc HO Ha]
  · isplitr; · iexact Hi
    isplitl [Hc]; · iexact Hc
    isplitl [HO]; · iexact HO
    isplitr; · rw [MayWait_zero]; iempintro
    iexact Ha
  iintro ⟨HO, Ha, -, -⟩
  iapply Hk
  isplitl [HO]; · iexists _; iexact HO
  iexact Ha

/-- The wait on a receive semaphore: the block from the device `k + 1` places before has landed. -/
theorem step_recv (c : Dev nD) (n : ℕ) (hn : 14 ≤ n) (k : Fin 7) {sp' : Space} {s' : Shape} {e' : EltTy}
    {srcw : Memref sig .tc sp' s' e'} {hsrc : srcw.view.WordExact} {hdst : (gV (slot k)).view.WordExact} :
    iprop(env m ∗ Ow c n ∗ cred (tallyAt (recvCell c k) () N) ∗ atPos ER (recvCell c k) 0 ∅ 0)
      ⊢ iprop(((Ow c n ∗ atPos ER (recvCell c k) 1 ∅ 0 ∗ pc c cc0_scratch2 (colsG (slot k)) (gxC m c)) -∗ WP c (kk ⟨⟩) Q)
          -∗ WP c (.op (.waitDma2 (recvQ k) srcw (gV (slot k)) hsrc hdst) kk) Q) := by
  unfold Ow
  iintro ⟨#He, ⟨%W, HO⟩, Hc, Ha⟩ Hk
  ihave #Hb := (env_recv m c k) $$ He
  unfold known
  icases Hb with ⟨%κ, #Hi, #Hre⟩
  iapply (Rounds.wp_wait_rest_token 𝒱₀ ER (Rd m) (c : Thread nD τ) none (κ := κ)
      (wpE_waitDma2_eq 𝒱₀ (c : Thread nD τ) none Set.univ) (Set.mem_univ _) () (O := owedL ((dues c).drop n)) (W := W) (R := 0) (m := 0) (T := ∅)
      (by rw [Nat.zero_add, expect_recv])) $$ [Hc HO Ha]
  · isplitr; · iexact Hi
    isplitl [Hc]; · iexact Hc
    isplitl [HO]; · iexact HO
    isplitr
    · iapply (mayWait c (.dma (recvQ k)) n 2 (le_of_eq (lv_recv c k)) (levels_cred c n hn)); iapply (env_levels m); iexact He
    iexact Ha
  iintro ⟨HO, Ha, -, Hpay⟩
  ihave Hp := (Entails.of_eq (rest_recv m c k)) $$ Hpay
  unfold recvPay
  iapply Hk
  isplitl [HO]; · iexists _; iexact HO
  isplitl [Ha]; · iexact Ha
  iexact Hp

/-- The wait on a send semaphore, everything paid: the row block sent is back. -/
theorem step_sendwait (c : Dev nD) (k : Fin 7) {sp' : Space} {s' : Shape} {e' : EltTy}
    {srcw : Memref sig .tc sp' s' e'} {hsrc : srcw.view.WordExact} {hdst : (bV c k).view.WordExact} :
    iprop(env m ∗ Ow c 21 ∗ cred (tallyAt (sendCell c k) () N) ∗ atPos ER (sendCell c k) 0 ∅ 0)
      ⊢ iprop(((Ow c 21 ∗ atPos ER (sendCell c k) 1 ∅ 0 ∗ pc c cc0_scratch1 (rowsB c k.succ) (xbC m c)) -∗ WP c (kk ⟨⟩) Q)
          -∗ WP c (.op (.waitDma2 (sendQ k) srcw (bV c k) hsrc hdst) kk) Q) := by
  unfold Ow
  iintro ⟨#He, ⟨%W, HO⟩, Hc, Ha⟩ Hk
  ihave #Hb := (env_send m c k) $$ He
  unfold known
  icases Hb with ⟨%κ, #Hi, #Hre⟩
  iapply (Rounds.wp_wait_rest_token 𝒱₀ ER (Rd m) (c : Thread nD τ) none (κ := κ)
      (wpE_waitDma2_eq 𝒱₀ (c : Thread nD τ) none Set.univ) (Set.mem_univ _) () (O := 0) (W := W) (R := 0) (m := 0) (T := ∅)
      (by rw [Nat.zero_add, expect_send])) $$ [Hc HO Ha]
  · isplitr; · iexact Hi
    isplitl [Hc]; · iexact Hc
    isplitl [HO]; · iexact HO
    isplitr; · rw [MayWait_zero]; iempintro
    iexact Ha
  iintro ⟨HO, Ha, -, Hpay⟩
  ihave Hp := (Entails.of_eq (rest_send m c k)) $$ Hpay
  unfold sendPay
  iapply Hk
  isplitl [HO]; · iexists _; iexact HO
  isplitl [Ha]; · iexact Ha
  iexact Hp

/-- A cell past its round gives its counter, at zero, back. -/
theorem close_cell (g : GSem nD τ sig) : iprop(known (F := F) m g ∗ atPos ER g 1 ∅ 0) ⊢ |={Set.univ}=> semVal g 0 := by
  unfold known
  iintro ⟨⟨%κ, #Hi, -⟩, Ha⟩
  imod (Rounds.cell_close ER (Rd m) (Set.mem_univ κ) (fun h => h) (R := 0 + 1) (duties_later m g)) $$ [Ha] with Hz
  · isplitr; · iexact Hi
    iexact Ha
  imodintro; iexact Hz

end Cert.Gather
end
-- ==== Proof.Moves.lean ====
/-
# The data movements

Where each piece's elements lie in its buffer, what a landed transfer makes of its destination, and one rule for each
transfer, load and store of the kernel.
-/
module

public import proofs.«01_k».proof.Proof.Steps

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3 eq_ix2 eq_ix3)

variable {F : FTy → Type} [FloatOps F]

local notation "𝕄" => MT nD τ sig Unit (Elt F) ℕ UU ℕ

variable (m : (ℓ : Loc nD τ sig) → Buf (Elt F) ℓ)
variable {α : Type} {Q : α → sProp (MT nD τ sig Unit (Elt F) ℕ UU ℕ)} {kk : PUnit → Prog (TpuEff nD τ sig (Elt F) Λ₀ .tc) α}

/-! ## Where the elements of a piece lie -/

theorem blk_lt (d : Dev nD) (j : Fin 256) : d.val * 256 + j.val < 2048 := by have : d.val < 8 := d.isLt; omega
theorem col8_lt (t : Fin 8) (j : Fin 256) : 256 * t.val + j.val < 2048 := by omega
theorem half_lt (h : Fin 2) (j : Fin 256) : 256 * h.val + j.val < 512 := by omega

theorem bV_emb (c : Dev nD) (k : Fin 7) (x : S256x256.Idx) :
    (bV c k).view.emb x = ix2 ⟨(up c k).val * 256 + (x 0).val, blk_lt _ (x 0)⟩ (x 1) := by
  have h := off2_val c k
  funext a
  match a with
  | 0 => exact Fin.ext (by
      show k0_off2 c (BitVec.ofNat 32 (1 + k.val)) 0 + 1 * (x 0).val = (up c k).val * 256 + (x 0).val
      rw [h]; show (up c k).val * 256 + 1 * (x 0).val = _; omega)
  | 1 => exact Fin.ext (by
      show k0_off2 c (BitVec.ofNat 32 (1 + k.val)) 1 + 1 * (x 1).val = (x 1).val
      rw [h]; show 0 + 1 * (x 1).val = _; omega)

theorem gV_emb (t : Fin 8) (x : S256x256.Idx) :
    (gV t).view.emb x = ix2 (x 0) ⟨256 * t.val + (x 1).val, col8_lt t (x 1)⟩ := by
  funext a
  match a with
  | 0 => exact Fin.ext (by show 0 + 1 * (x 0).val = (x 0).val; omega)
  | 1 => exact Fin.ext (by show 256 * t.val + 1 * (x 1).val = 256 * t.val + (x 1).val; omega)

theorem wSrc_emb (c : Dev nD) (e : Fin 8) (x : S256x2048.Idx) :
    (wSrc c e).view.emb x = ix2 ⟨(src c e).val * 256 + (x 0).val, blk_lt _ (x 0)⟩ (x 1) := by
  have h := off1_val c e
  funext a
  match a with
  | 0 => exact Fin.ext (by
      show k0_off1 c (BitVec.ofNat 32 e.val) 0 + 1 * (x 0).val = (src c e).val * 256 + (x 0).val
      rw [h]; show (src c e).val * 256 + 1 * (x 0).val = _; omega)
  | 1 => exact Fin.ext (by
      show k0_off1 c (BitVec.ofNat 32 e.val) 1 + 1 * (x 1).val = (x 1).val
      rw [h]; show 0 + 1 * (x 1).val = _; omega)

theorem wV_emb (p : Fin 2 × Fin 2) (x : S256x2048.Idx) :
    (wV p).view.emb x = ix3 p.1 ⟨256 * p.2.val + (x 0).val, half_lt p.2 (x 0)⟩ (x 1) := by
  have hr : Shape.reshapeEquiv (s := S1x256x2048) (s' := S256x2048) squeezes_S1x256x2048_S256x2048.numel_eq x
      = (ix3 (⟨0, Nat.one_pos⟩ : Fin 1) (x 0) (x 1) : S1x256x2048.Idx) :=
    (congrArg _ (eq_ix2 x)).trans (ValueIdx.reshapeEquiv_ix2_1ab (a := 256) (b := 2048) _ (x 0) (x 1))
  refine Eq.trans (b := (Rect.unit (s := S2x512x2048) ![p.1.val, 256 * p.2.val, 0] S1x256x2048.size (inbW p)).emb
      (Shape.reshapeEquiv (s := S1x256x2048) (s' := S256x2048) squeezes_S1x256x2048_S256x2048.numel_eq x)) rfl ?_
  refine (congrArg _ hr).trans ?_
  funext a
  match a with
  | 0 => exact Fin.ext (by show p.1.val + 1 * 0 = p.1.val; omega)
  | 1 => exact Fin.ext (by show 256 * p.2.val + 1 * (x 0).val = 256 * p.2.val + (x 0).val; omega)
  | 2 => exact Fin.ext (by show 0 + 1 * (x 1).val = (x 1).val; omega)

/-- A write through a view of values that agree with `g` makes the view's elements agree with `g`. -/
theorem write_eq {κ : Kind} {sp : Space} {s : Shape} {e : EltTy} (v : View sig κ sp s e) (f g : v.ty.Contents (Elt F))
    (w : s.Idx → Elt F e) (h : ∀ x, w x = v.read (Elt F) g x) : ∀ i ∈ v.set, v.write (Elt F) f w Finset.univ i = g i := by
  intro i hi
  obtain ⟨x, -, rfl⟩ := Finset.mem_map.mp hi
  rw [View.write_emb_of_mem (h := Finset.mem_univ x), h, View.read_apply]
  simp

/-- What a transfer of shift `k + 1` writes on the receiver is the receiver's block. -/
theorem landed_block (c : Dev nD) (k : Fin 7) (x : S256x256.Idx) :
    (bV c k).view.read (Elt F) (xbC m c) x = (gV (slot k)).view.read (Elt F) (gxC m (up c k)) x := by
  show xbC m c ((bV c k).view.emb x) = gxC m (up c k) ((gV (slot k)).view.emb x)
  rw [bV_emb, gV_emb]
  have h1 : (x 1).val < 256 := (x 1).isLt
  have ht : (⟨(256 * (slot k).val + (x 1).val) / 256, div8 ⟨256 * (slot k).val + (x 1).val, col8_lt _ (x 1)⟩⟩ : Fin 8) = slot k :=
    Fin.ext (by show (256 * (slot k).val + (x 1).val) / 256 = _; omega)
  have hs : src (up c k) (ord (slot k)) = c := by rw [src_slot, dn_up]
  have hc : (⟨(256 * (slot k).val + (x 1).val) % 256, Nat.mod_lt _ (by decide)⟩ : Fin 256) = x 1 :=
    Fin.ext (by show (256 * (slot k).val + (x 1).val) % 256 = _; omega)
  show _ = xbC m (src (up c k) (ord ⟨(256 * (slot k).val + (x 1).val) / 256, _⟩)) (ix2 ⟨(up c k).val * 256 + (x 0).val, _⟩ ⟨(256 * (slot k).val + (x 1).val) % 256, _⟩)
  rw [ht, hs, hc]
  rfl

/-- What a transfer of a row block of the weights writes is its half of the step's weights. -/
theorem landed_w (c : Dev nD) (ch : Fin 4) (h : Fin 2) (e : Fin 8) (he : e = ord ⟨2 * ch.val + h.val, by omega⟩)
    (s : Fin 2) (x : S256x2048.Idx) :
    (wSrc c e).view.read (Elt F) (wC m c) x = (wV (s, h)).view.read (Elt F) (wbC m c ch) x := by
  have h1 : (x 0).val < 256 := (x 0).isLt
  have hL : (wSrc c e).view.read (Elt F) (wC m c) x = wC m c (ix2 ⟨(src c e).val * 256 + (x 0).val, blk_lt _ (x 0)⟩ (x 1)) :=
    congrArg (wC m c) (wSrc_emb c e x)
  have hR : (wV (s, h)).view.read (Elt F) (wbC m c ch) x
      = wbC m c ch (ix3 s ⟨256 * h.val + (x 0).val, half_lt h (x 0)⟩ (x 1)) := congrArg (wbC m c ch) (wV_emb (s, h) x)
  rw [hL, hR]
  subst he
  have ht : (⟨2 * ch.val + (256 * h.val + (x 0).val) / 256, ch_lt ch ⟨256 * h.val + (x 0).val, half_lt h (x 0)⟩⟩ : Fin 8) = ⟨2 * ch.val + h.val, by omega⟩ :=
    Fin.ext (by show 2 * ch.val + (256 * h.val + (x 0).val) / 256 = 2 * ch.val + h.val; omega)
  have hm : (256 * h.val + (x 0).val) % 256 = (x 0).val := by omega
  show _ = wC m c (ix2 ⟨(src c (ord ⟨2 * ch.val + (256 * h.val + (x 0).val) / 256, _⟩)).val * 256 + (256 * h.val + (x 0).val) % 256, _⟩ (x 1))
  congr 2
  exact Fin.ext (by show _ = (src c (ord ⟨2 * ch.val + (256 * h.val + (x 0).val) / 256, _⟩)).val * 256 + (256 * h.val + (x 0).val) % 256; rw [ht, hm])

/-! ## The transfers between devices -/

/-- A transfer of shift `k + 1`: it fills the receiver's piece with the sender's row block. -/
theorem step_send (c : Dev nD) (n : ℕ) (k : Fin 7) (dst : Dev nD) (hd : dst = up c k)
    {hsc : (gV (slot k) : Memref sig (Dev.tc dst : Thread nD τ).2.kind .vmem S256x256 .bf16).view.ref.isScScratch = false}
    {hsrc : (bV c k).view.WordExact} {hdst : (gV (slot k)).view.WordExact}
    {hsem : DmaTarget.Typed .vmem (.dma (recvQ k)) (.remote (Dev.tc dst : Thread nD τ) (gV (slot k)) (.dma (sendQ k)) hsc)}
    (hO : owedL ((dues c).drop n) = owedL ((dues c).drop (n + 1)) + tallyAt (recvCell (up c k) k) () N) :
    iprop(env m ∗ Ow c n ∗ pc c cc0_scratch1 (rowsB c k.succ) (xbC m c) ∗ hole c k
        ∗ dutyTok ER (sendCell c k) 0 0 ∗ dutyTok ER (recvCell (up c k) k) 0 0)
      ⊢ iprop(((Ow c (n + 1) ∗ cred (tallyAt (sendCell c k) () N)) -∗ WP c (kk ⟨⟩) Q)
          -∗ WP c (.op (.enqueueDma (bV c k) (.remote (Dev.tc dst : Thread nD τ) (gV (slot k)) (.dma (sendQ k)) hsc) (.dma (recvQ k)) hsrc hdst hsem) kk) Q) := by
  subst hd
  unfold Ow hole
  iintro ⟨#He, ⟨%W, HO⟩, Hs, ⟨%fd, Hd⟩, Ht, Ht'⟩ Hk
  ihave #Hb := (env_send m c k) $$ He
  ihave #Hr := (env_recv m (up c k) k) $$ He
  unfold known
  icases Hb with ⟨%κ₁, #Hi1, #Hre1⟩
  icases Hr with ⟨%κ₂, #Hi2, #Hre2⟩
  iapply (Rounds.wp_send_pointsTo (c' := (up c k : Thread nD τ)) 𝒱₀ ER (Rd m) (c : Thread nD τ) none (κ₁ := κ₁) (κ₂ := κ₂)
    (src := bV c k) (dst := gV (slot k)) (q := fullShare) (fs := xbC m c)
    (r₁ := 0) (r₂ := 0) (d₁ := 0) (d₂ := 0) (fd := fd)
    (by rw [duties_send]; exact Finset.mem_singleton_self _) (by rw [duties_recv]; exact Finset.mem_singleton_self _)
    () () N rfl rfl rfl (owedL ((dues c).drop (n + 1))) hO (W := W)
    (by rw [payload_send]; unfold sendPay pc; rw [← bV_set])
    (by
      rw [payload_recv]; unfold recvPay pc; rw [← gV_set]
      exact Entails.of_eq (pointsTo_congr (write_eq (F := F) (gV (slot k)).view fd (gxC m (up c k)) _ (landed_block m c k))))) $$ [HO Hs Hd Ht Ht']
  · isplitr; · iexact Hi1
    isplitr; · iexact Hi2
    isplitl [Hs]; · rw [bV_set]; iexact Hs
    isplitl [Hd]; · rw [gV_set]; iexact Hd
    isplitl [HO]; · iexact HO
    isplitl [Ht]; · iexact Ht
    isplitr; · iexact Hre1
    isplitl [Ht']; · iexact Ht'
    iexact Hre2
  iintro ⟨Hc, HO⟩
  iapply Hk
  isplitl [HO]; · iexists W; iexact HO
  iexact Hc

/-! ## The transfers within a device -/

/-- A transfer within a device, on a semaphore at zero: it is then in flight, to deliver the destination with contents
    `g` and the source. -/
theorem step_dma (c : Dev nD) {sp sp' : Space} {s : Shape} {e : EltTy} (src : Memref sig .tc sp s e) (dst : Memref sig .tc sp' s e)
    (q : DmaSem sig) {hsrc : src.view.WordExact} {hdst : dst.view.WordExact} {hsem : DmaTarget.Typed (nD := nD) (τ := τ) (p := .tc) sp (.dma q) (.here dst)}
    (fs : Buf (Elt F) (src.view.loc (c : Thread nD τ))) (fd g : Buf (Elt F) (dst.view.loc (c : Thread nD τ)))
    (hN0 : 0 < dst.view.dmaCredit) (h : ∀ x, src.view.read (Elt F) fs x = dst.view.read (Elt F) g x) :
    iprop((src.view.loc (c : Thread nD τ) ↦[src.view.set]{fullShare} fs) ∗ (dst.view.loc (c : Thread nD τ) ↦[dst.view.set]{fullShare} fd)
        ∗ semVal ((c : Thread nD τ), SemLoc.dma q) 0)
      ⊢ iprop((Transfers.Flight countersEmb (c : Thread nD τ) (SemLoc.dma q) () dst.view.dmaCredit
              iprop((dst.view.loc (c : Thread nD τ) ↦[dst.view.set]{fullShare} g) ∗ (src.view.loc (c : Thread nD τ) ↦[src.view.set]{fullShare} fs))
            -∗ WP c (kk ⟨⟩) Q)
          -∗ WP c (.op (.enqueueDma src (.here dst) (.dma q) hsrc hdst hsem) kk) Q) := by
  iintro ⟨Hs, Hd, Hv⟩ Hk
  iapply (Transfers.wp_dmaLocal countersEmb 𝒱₀ (c : Thread nD τ) none (src := src) (via := .same) (dst := dst) (sm := .dma q) (q := fullShare) (fs := fs)
    (Sd := dst.view.set) (fd := fd) () dst.view.dmaCredit rfl hN0 subset_rfl) $$ [Hs Hd Hv]
  · isplitl [Hs]; · iexact Hs
    isplitl [Hd]; · iexact Hd
    iexact Hv
  iintro Hf
  iapply Hk
  iapply (Transfers.Flight_mono countersEmb (c : Thread nD τ) (sep_mono_left
    (Entails.of_eq (pointsTo_congr (write_eq (F := F) dst.view fd g _ h))))) $$ Hf

/-- The wait on a transfer within a device. -/
theorem step_dmawait (c : Dev nD) (n k : ℕ) (q : DmaSem sig) {sp sp' : Space} {s s' : Shape} {e e' : EltTy}
    {srcw : Memref sig .tc sp' s' e'} (dst : Memref sig .tc sp s e) {hsrc : srcw.view.WordExact} {hdst : dst.view.WordExact} {D : sProp 𝕄}
    (hk : lv ((c : Thread nD τ), SemLoc.dma q) () ≤ k) (h : ∀ p ∈ (dues c).drop n, k < lv p.1 ()) :
    iprop(env m ∗ Ow c n ∗ Transfers.Flight countersEmb (c : Thread nD τ) (SemLoc.dma q) () dst.view.dmaCredit D)
      ⊢ iprop(((Ow c n ∗ semVal ((c : Thread nD τ), SemLoc.dma q) 0 ∗ D) -∗ WP c (kk ⟨⟩) Q)
          -∗ WP c (.op (.waitDma2 q srcw dst hsrc hdst) kk) Q) := by
  unfold Ow
  iintro ⟨#He, ⟨%W, HO⟩, Hf⟩ Hk
  iapply (Transfers.wp_waitLocalO countersEmb 𝒱₀ (c : Thread nD τ) none () (dstw := dst) rfl (O := owedL ((dues c).drop n)) (W := W)) $$ [HO Hf]
  · isplitl [Hf]; · iexact Hf
    isplitl [HO]; · iexact HO
    iapply (mayWait c (.dma q) n k hk h); iapply (env_levels m); iexact He
  iintro ⟨HD, Hv, HO⟩
  iapply Hk
  isplitl [HO]; · iexists _; iexact HO
  isplitl [Hv]; · iexact Hv
  iexact HD

theorem lv_w (c : Dev nD) (p : Fin 2 × Fin 2) : lv ((c : Thread nD τ), SemLoc.dma (wQ p)) () ≤ 2 := by
  dsimp only [lv]; rw [if_neg fun h => by have h2 : 14 + 2 * p.1.val + p.2.val < 14 := h.2; omega]; exact Nat.zero_le _

/-- The weights' transfer of half `h` of step `ch` in flight, to slot `s`. -/
def flW (c : Dev nD) (ch : Fin 4) (s h : Fin 2) (e : Fin 8) : sProp 𝕄 :=
  Transfers.Flight countersEmb (c : Thread nD τ) (SemLoc.dma (wQ (s, h))) () (wV (s, h)).view.dmaCredit
    iprop(pc c cc0_scratch3 (halfW (s, h)) (wbC m c ch) ∗ pc c main_arg1 (rowsW c e) (wC m c))

/-- The start of the transfer of half `h` of the weights of step `ch` to slot `s`. -/
theorem step_w (c : Dev nD) (ch : Fin 4) (s h : Fin 2) (e : Fin 8) (he : e = ord ⟨2 * ch.val + h.val, by omega⟩)
    (f : cc0_scratch3.ty.Contents (Elt F)) {hsrc : (wSrc c e).view.WordExact} {hdst : (wV (s, h)).view.WordExact}
    {hsem : DmaTarget.Typed (nD := nD) (τ := τ) (p := .tc) .hbm (.dma (wQ (s, h))) (.here (wV (s, h)))} :
    iprop(pc c main_arg1 (rowsW c e) (wC m c) ∗ pc c cc0_scratch3 (halfW (s, h)) f ∗ semVal ((c : Thread nD τ), SemLoc.dma (wQ (s, h))) 0)
      ⊢ iprop((flW m c ch s h e -∗ WP c (kk ⟨⟩) Q)
          -∗ WP c (.op (.enqueueDma (wSrc c e) (.here (wV (s, h))) (.dma (wQ (s, h))) hsrc hdst hsem) kk) Q) := by
  unfold flW pc
  rw [← wSrc_set, ← wV_set]
  exact step_dma (F := F) c (wSrc c e) (wV (s, h)) (wQ (s, h)) (wC m c) f (wbC m c ch) (View.dmaCredit_pos _ (by decide))
    (landed_w m c ch h e he s)

/-- The wait on it. -/
theorem step_wwait (c : Dev nD) (n : ℕ) (hn : 14 ≤ n) (ch : Fin 4) (s h : Fin 2) (e : Fin 8) {sp' : Space} {s' : Shape} {e' : EltTy}
    {srcw : Memref sig .tc sp' s' e'} {hsrc : srcw.view.WordExact} {hdst : (wV (s, h)).view.WordExact} :
    iprop(env m ∗ Ow c n ∗ flW m c ch s h e)
      ⊢ iprop(((Ow c n ∗ semVal ((c : Thread nD τ), SemLoc.dma (wQ (s, h))) 0
            ∗ pc c cc0_scratch3 (halfW (s, h)) (wbC m c ch) ∗ pc c main_arg1 (rowsW c e) (wC m c)) -∗ WP c (kk ⟨⟩) Q)
          -∗ WP c (.op (.waitDma2 (wQ (s, h)) srcw (wV (s, h)) hsrc hdst) kk) Q) :=
  step_dmawait m c n 2 (wQ (s, h)) (wV (s, h)) (lv_w c (s, h)) (levels_cred c n hn)

/-- The operand's transfer in flight; -/
def flX (c : Dev nD) : sProp 𝕄 :=
  Transfers.Flight countersEmb (c : Thread nD τ) (SemLoc.dma xQ) () xM.view.dmaCredit
    iprop(pc c cc0_scratch0 Finset.univ (xC m c) ∗ pc c main_arg0 Finset.univ (xC m c))
/-- the result's. -/
def flO (c : Dev nD) : sProp 𝕄 :=
  Transfers.Flight countersEmb (c : Thread nD τ) (SemLoc.dma oQ) () o0.view.dmaCredit
    iprop(pc c main_v1 Finset.univ (outC m c) ∗ pc c cc0_scratch4 Finset.univ (outC m c))

theorem step_x (c : Dev nD) (f : cc0_scratch0.ty.Contents (Elt F)) {hsrc : x0.view.WordExact} {hdst : xM.view.WordExact}
    {hsem : DmaTarget.Typed (nD := nD) (τ := τ) (p := .tc) .hbm (.dma xQ) (.here xM)} :
    iprop(pc c main_arg0 Finset.univ (xC m c) ∗ pc c cc0_scratch0 Finset.univ f ∗ semVal ((c : Thread nD τ), SemLoc.dma xQ) 0)
      ⊢ iprop((flX m c -∗ WP c (kk ⟨⟩) Q) -∗ WP c (.op (.enqueueDma x0 (.here xM) (.dma xQ) hsrc hdst hsem) kk) Q) := by
  unfold flX pc
  have h := step_dma (F := F) (Q := Q) (kk := kk) c x0 xM xQ (hsrc := hsrc) (hdst := hdst) (hsem := hsem) (xC m c) f (xC m c)
    (View.dmaCredit_pos _ (by decide)) (fun _ => rfl)
  rw [View.set_whole, View.set_whole] at h
  exact h

theorem step_xwait (c : Dev nD) {hsrc : x0.view.WordExact} {hdst : xM.view.WordExact} :
    iprop(env m ∗ Ow c 7 ∗ flX m c)
      ⊢ iprop(((Ow c 7 ∗ semVal ((c : Thread nD τ), SemLoc.dma xQ) 0 ∗ pc c cc0_scratch0 Finset.univ (xC m c) ∗ pc c main_arg0 Finset.univ (xC m c))
            -∗ WP c (kk ⟨⟩) Q)
          -∗ WP c (.op (.waitDma2 xQ x0 xM hsrc hdst) kk) Q) :=
  step_dmawait m c 7 1 xQ xM (by dsimp only [lv]; rw [if_neg (by decide)]; exact Nat.zero_le _) (levels_bar c)

theorem step_o (c : Dev nD) (f : main_v1.ty.Contents (Elt F)) {hsrc : aM.view.WordExact} {hdst : o0.view.WordExact}
    {hsem : DmaTarget.Typed (nD := nD) (τ := τ) (p := .tc) .vmem (.dma oQ) (.here o0)} :
    iprop(pc c cc0_scratch4 Finset.univ (outC m c) ∗ pc c main_v1 Finset.univ f ∗ semVal ((c : Thread nD τ), SemLoc.dma oQ) 0)
      ⊢ iprop((flO m c -∗ WP c (kk ⟨⟩) Q) -∗ WP c (.op (.enqueueDma aM (.here o0) (.dma oQ) hsrc hdst hsem) kk) Q) := by
  unfold flO pc
  have h := step_dma (F := F) (Q := Q) (kk := kk) c aM o0 oQ (hsrc := hsrc) (hdst := hdst) (hsem := hsem) (outC m c) f (outC m c)
    (View.dmaCredit_pos _ (by decide)) (fun _ => rfl)
  rw [View.set_whole, View.set_whole] at h
  exact h

theorem step_owait (c : Dev nD) {hsrc : aM.view.WordExact} {hdst : o0.view.WordExact} :
    iprop(env m ∗ Ow c 21 ∗ flO m c)
      ⊢ iprop(((Ow c 21 ∗ semVal ((c : Thread nD τ), SemLoc.dma oQ) 0 ∗ pc c main_v1 Finset.univ (outC m c) ∗ pc c cc0_scratch4 Finset.univ (outC m c))
            -∗ WP c (kk ⟨⟩) Q)
          -∗ WP c (.op (.waitDma2 oQ aM o0 hsrc hdst) kk) Q) :=
  step_dmawait m c 21 2 oQ o0 (by dsimp only [lv]; rw [if_neg (by decide)]; exact Nat.zero_le _) (levels_cred c 21 (by decide))

/-! ## Loads and stores -/

theorem zz : (![0, 0] : Fin 2 → Nat) = fun _ => 0 := by decide

/-- The load of the operand, -/
theorem load_x (c : Dev nD) {inb : ∀ a, (![0, 0] : Fin 2 → Nat) a + S2048x256.size a ≤ S2048x256.size a} (f : cc0_scratch0.ty.Contents (Elt F))
    {hl : xM.view.LoadsAt (Rect.unit (s := S2048x256) ![0, 0] S2048x256.size inb).toLoadRect} {kk : Vec F S2048x256 .f32 → Prog (TpuEff nD τ sig (Elt F) Λ₀ .tc) α} :
    pc c cc0_scratch0 Finset.univ f ⊢ iprop((pc c cc0_scratch0 Finset.univ f -∗ WP c (kk f) Q)
      -∗ WP c (.op (.load xM (Rect.unit (s := S2048x256) ![0, 0] S2048x256.size inb).toLoadRect hl) kk) Q) := by
  have h := wp_load (m := xM) (r := (Rect.unit (s := S2048x256) ![0, 0] S2048x256.size inb).toLoadRect) (hl := hl) (k := kk) (Q := Q)
    (q := fullShare) (f := f) (defs := defs₀ (F := F)) (Γ := .empty) 𝒱₀ (c : Thread nD τ) none Set.univ (Finset.subset_univ _)
  have e : xM.view.readAt (Elt F) (Rect.unit (s := S2048x256) ![0, 0] S2048x256.size inb).toLoadRect f = f :=
    Memref.readAt_unit_zero (Elt F) cc0_scratch0 zz inb f
  rw [e] at h
  exact h

/-- of the rounded operand, -/
theorem load_b (c : Dev nD) {inb : ∀ a, (![0, 0] : Fin 2 → Nat) a + S2048x256.size a ≤ S2048x256.size a} (f : cc0_scratch1.ty.Contents (Elt F))
    {hl : bM.view.LoadsAt (Rect.unit (s := S2048x256) ![0, 0] S2048x256.size inb).toLoadRect} {kk : Vec F S2048x256 .bf16 → Prog (TpuEff nD τ sig (Elt F) Λ₀ .tc) α} :
    pc c cc0_scratch1 Finset.univ f ⊢ iprop((pc c cc0_scratch1 Finset.univ f -∗ WP c (kk f) Q)
      -∗ WP c (.op (.load bM (Rect.unit (s := S2048x256) ![0, 0] S2048x256.size inb).toLoadRect hl) kk) Q) := by
  have h := wp_load (m := bM) (r := (Rect.unit (s := S2048x256) ![0, 0] S2048x256.size inb).toLoadRect) (hl := hl) (k := kk) (Q := Q)
    (q := fullShare) (f := f) (defs := defs₀ (F := F)) (Γ := .empty) 𝒱₀ (c : Thread nD τ) none Set.univ (Finset.subset_univ _)
  have e : bM.view.readAt (Elt F) (Rect.unit (s := S2048x256) ![0, 0] S2048x256.size inb).toLoadRect f = f :=
    Memref.readAt_unit_zero (Elt F) cc0_scratch1 zz inb f
  rw [e] at h
  exact h

/-- and of the sum. -/
theorem load_a (c : Dev nD) {inb : ∀ a, (![0, 0] : Fin 2 → Nat) a + S256x2048.size a ≤ S256x2048.size a} (f : cc0_scratch4.ty.Contents (Elt F))
    {hl : aM.view.LoadsAt (Rect.unit (s := S256x2048) ![0, 0] S256x2048.size inb).toLoadRect} {kk : Vec F S256x2048 .f32 → Prog (TpuEff nD τ sig (Elt F) Λ₀ .tc) α} :
    pc c cc0_scratch4 Finset.univ f ⊢ iprop((pc c cc0_scratch4 Finset.univ f -∗ WP c (kk f) Q)
      -∗ WP c (.op (.load aM (Rect.unit (s := S256x2048) ![0, 0] S256x2048.size inb).toLoadRect hl) kk) Q) := by
  have h := wp_load (m := aM) (r := (Rect.unit (s := S256x2048) ![0, 0] S256x2048.size inb).toLoadRect) (hl := hl) (k := kk) (Q := Q)
    (q := fullShare) (f := f) (defs := defs₀ (F := F)) (Γ := .empty) 𝒱₀ (c : Thread nD τ) none Set.univ (Finset.subset_univ _)
  have e : aM.view.readAt (Elt F) (Rect.unit (s := S256x2048) ![0, 0] S256x2048.size inb).toLoadRect f = f :=
    Memref.readAt_unit_zero (Elt F) cc0_scratch4 zz inb f
  rw [e] at h
  exact h

/-- The store of the whole rounded operand, -/
theorem store_b (c : Dev nD) {inb : ∀ a, (![0, 0] : Fin 2 → Nat) a + S2048x256.size a ≤ S2048x256.size a} (f : cc0_scratch1.ty.Contents (Elt F))
    (w : Vec F S2048x256 .bf16)
    {hx : (bM.access (Rect.unit (s := S2048x256) ![0, 0] S2048x256.size inb)).Stores Finset.univ} {hm : _} :
    pc c cc0_scratch1 Finset.univ f ⊢ iprop((pc c cc0_scratch1 Finset.univ w -∗ WP c (kk ⟨⟩) Q)
      -∗ WP c (.op (.store bM (Rect.unit (s := S2048x256) ![0, 0] S2048x256.size inb) w Finset.univ hx hm) kk) Q) := by
  have h := wp_store (m := bM) (r := Rect.unit (s := S2048x256) ![0, 0] S2048x256.size inb) (w := w) (Mk := Finset.univ) (hx := hx) (hm := hm) (k := kk) (Q := Q)
    (f := f) (defs := defs₀ (F := F)) (Γ := .empty) 𝒱₀ (c : Thread nD τ) none Set.univ (Finset.subset_univ _)
  have e : (bM.access (Rect.unit (s := S2048x256) ![0, 0] S2048x256.size inb)).write (Elt F) f w Finset.univ = w :=
    Memref.write_access_unit_zero_univ (Elt F) cc0_scratch1 zz inb f w
  rw [e] at h
  exact h

/-- and of the sum. -/
theorem store_a (c : Dev nD) {inb : ∀ a, (![0, 0] : Fin 2 → Nat) a + S256x2048.size a ≤ S256x2048.size a} (f : cc0_scratch4.ty.Contents (Elt F))
    (w : Vec F S256x2048 .f32)
    {hx : (aM.access (Rect.unit (s := S256x2048) ![0, 0] S256x2048.size inb)).Stores Finset.univ} {hm : _} :
    pc c cc0_scratch4 Finset.univ f ⊢ iprop((pc c cc0_scratch4 Finset.univ w -∗ WP c (kk ⟨⟩) Q)
      -∗ WP c (.op (.store aM (Rect.unit (s := S256x2048) ![0, 0] S256x2048.size inb) w Finset.univ hx hm) kk) Q) := by
  have h := wp_store (m := aM) (r := Rect.unit (s := S256x2048) ![0, 0] S256x2048.size inb) (w := w) (Mk := Finset.univ) (hx := hx) (hm := hm) (k := kk) (Q := Q)
    (f := f) (defs := defs₀ (F := F)) (Γ := .empty) 𝒱₀ (c : Thread nD τ) none Set.univ (Finset.subset_univ _)
  have e : (aM.access (Rect.unit (s := S256x2048) ![0, 0] S256x2048.size inb)).write (Elt F) f w Finset.univ = w :=
    Memref.write_access_unit_zero_univ (Elt F) cc0_scratch4 zz inb f w
  rw [e] at h
  exact h

/-- The device's own row block of the rounded operand. -/
def ownB (c : Dev nD) : Vec F S256x256 .bf16 := fun x => xbC m c (ix2 ⟨c.val * 256 + (x 0).val, blk_lt c (x 0)⟩ (x 1))

theorem own_set (c : Dev nD) (inb : ∀ a, k0_off3 c a + S256x256.size a ≤ S2048x256.size a) :
    (bM.access (Rect.unit (s := S2048x256) (k0_off3 c) S256x256.size inb)).set ⊆ rowsB c 0 := by
  intro i hi
  have hi' := (Finset.ext_iff.mp (View.set_slice_whole _ _) i).mp hi
  rw [mem_rowsB]
  have h := (Rect.mem_set_unit (s := S2048x256)).mp hi' 0
  rw [off3_val] at h
  have h' : c.val * 256 ≤ (i 0).val ∧ (i 0).val < c.val * 256 + 256 := h
  have hc : c.val < 8 := c.isLt
  show (i 0).val / 256 = (c.val + 0) % 8
  omega

theorem own_read (c : Dev nD) (inb : ∀ a, k0_off3 c a + S256x256.size a ≤ S2048x256.size a) :
    (bM.access (Rect.unit (s := S2048x256) (k0_off3 c) S256x256.size inb)).read (Elt F) (xbC m c) = ownB m c := by
  funext x
  refine congrArg (xbC m c) ?_
  have h0 : k0_off3 c 0 = c.val * 256 := congrFun (off3_val c) 0
  have h1 : k0_off3 c 1 = 0 := congrFun (off3_val c) 1
  funext a
  match a with
  | 0 => exact Fin.ext (by show k0_off3 c 0 + 1 * (x 0).val = c.val * 256 + (x 0).val; omega)
  | 1 => exact Fin.ext (by show k0_off3 c 1 + 1 * (x 1).val = (x 1).val; omega)

/-- The load of the device's own row block, -/
theorem load_own (c : Dev nD) {inb : ∀ a, k0_off3 c a + S256x256.size a ≤ S2048x256.size a}
    {hl : bM.view.LoadsAt (Rect.unit (s := S2048x256) (k0_off3 c) S256x256.size inb).toLoadRect} {kk : Vec F S256x256 .bf16 → Prog (TpuEff nD τ sig (Elt F) Λ₀ .tc) α} :
    pc c cc0_scratch1 (rowsB c 0) (xbC m c) ⊢ iprop((pc c cc0_scratch1 (rowsB c 0) (xbC m c) -∗ WP c (kk (ownB m c)) Q)
      -∗ WP c (.op (.load bM (Rect.unit (s := S2048x256) (k0_off3 c) S256x256.size inb).toLoadRect hl) kk) Q) := by
  have h := wp_load_rect (m := bM) (r := Rect.unit (s := S2048x256) (k0_off3 c) S256x256.size inb) (hl := hl) (k := kk) (Q := Q)
    (q := fullShare) (f := xbC m c) (defs := defs₀ (F := F)) (Γ := .empty) 𝒱₀ (c : Thread nD τ) none Set.univ (own_set c inb)
  rw [own_read] at h
  exact h

theorem g0_set (inb : ∀ a, (![0, 0] : Fin 2 → Nat) a + S256x256.size a ≤ S256x2048.size a) :
    (gM.access (Rect.unit (s := S256x2048) ![0, 0] S256x256.size inb)).set ⊆ colsG 0 := le_of_eq (gV_set 0)

/-- the load of the piece it goes to, -/
theorem load_g0 (c : Dev nD) {inb : ∀ a, (![0, 0] : Fin 2 → Nat) a + S256x256.size a ≤ S256x2048.size a} (f : cc0_scratch2.ty.Contents (Elt F))
    {hl : gM.view.LoadsAt (Rect.unit (s := S256x2048) ![0, 0] S256x256.size inb).toLoadRect} {kk : Vec F S256x256 .bf16 → Prog (TpuEff nD τ sig (Elt F) Λ₀ .tc) α} :
    pc c cc0_scratch2 (colsG 0) f ⊢ iprop((pc c cc0_scratch2 (colsG 0) f -∗ ∀ v, WP c (kk v) Q)
      -∗ WP c (.op (.load gM (Rect.unit (s := S256x2048) ![0, 0] S256x256.size inb).toLoadRect hl) kk) Q) := by
  have h := wp_load_rect (m := gM) (r := Rect.unit (s := S256x2048) ![0, 0] S256x256.size inb) (hl := hl) (k := kk) (Q := Q)
    (q := fullShare) (f := f) (defs := defs₀ (F := F)) (Γ := .empty) 𝒱₀ (c : Thread nD τ) none Set.univ (g0_set inb)
  iintro Hp Hk
  iapply h $$ Hp
  iintro Hp
  iapply Hk $$ Hp

theorem own_landed (c : Dev nD) (inb : ∀ a, (![0, 0] : Fin 2 → Nat) a + S256x256.size a ≤ S256x2048.size a) (x : S256x256.Idx) :
    k0_pay2 (ownB m c) x = (gM.access (Rect.unit (s := S256x2048) ![0, 0] S256x256.size inb)).read (Elt F) (gxC m c) x := by
  have e : k0_pay2 (ownB m c) = ownB m c := shapeCast_self _ _
  rw [e]
  have hx := gV_emb 0 x
  have h1 : (x 1).val < 256 := (x 1).isLt
  refine Eq.trans ?_ (congrArg (gxC m c) hx).symm
  have ht : (⟨(256 * (0 : Fin 8).val + (x 1).val) / 256, div8 ⟨256 * (0 : Fin 8).val + (x 1).val, col8_lt _ (x 1)⟩⟩ : Fin 8) = 0 :=
    Fin.ext (by show (256 * 0 + (x 1).val) / 256 = 0; omega)
  have hc : (⟨(256 * (0 : Fin 8).val + (x 1).val) % 256, Nat.mod_lt _ (by decide)⟩ : Fin 256) = x 1 :=
    Fin.ext (by show (256 * 0 + (x 1).val) % 256 = (x 1).val; omega)
  show _ = xbC m (src c (ord ⟨(256 * (0 : Fin 8).val + (x 1).val) / 256, _⟩)) (ix2 ⟨c.val * 256 + (x 0).val, _⟩ ⟨(256 * (0 : Fin 8).val + (x 1).val) % 256, _⟩)
  rw [ht, hc, show src c (ord 0) = c from src_zero c]
  rfl

/-- and its store there. -/
theorem store_g0 (c : Dev nD) {inb : ∀ a, (![0, 0] : Fin 2 → Nat) a + S256x256.size a ≤ S256x2048.size a} (f : cc0_scratch2.ty.Contents (Elt F))
    {hx : (gM.access (Rect.unit (s := S256x2048) ![0, 0] S256x256.size inb)).Stores Finset.univ} {hm : _} :
    pc c cc0_scratch2 (colsG 0) f ⊢ iprop((pc c cc0_scratch2 (colsG 0) (gxC m c) -∗ WP c (kk ⟨⟩) Q)
      -∗ WP c (.op (.store gM (Rect.unit (s := S256x2048) ![0, 0] S256x256.size inb) (k0_pay2 (ownB m c)) Finset.univ hx hm) kk) Q) := by
  have h := wp_store (m := gM) (r := Rect.unit (s := S256x2048) ![0, 0] S256x256.size inb) (w := k0_pay2 (ownB m c)) (Mk := Finset.univ) (hx := hx) (hm := hm) (k := kk) (Q := Q)
    (S := colsG 0) (f := f) (defs := defs₀ (F := F)) (Γ := .empty) 𝒱₀ (c : Thread nD τ) none Set.univ (g0_set inb)
  have hs : (gM.access (Rect.unit (s := S256x2048) ![0, 0] S256x256.size inb)).set = colsG 0 := gV_set 0
  iintro Hp Hk
  iapply h $$ Hp
  iintro Hp
  iapply Hk
  rw [← hs]
  iapply (Entails.of_eq (pointsTo_congr (write_eq (F := F) (gM.access (Rect.unit (s := S256x2048) ![0, 0] S256x256.size inb)) f (gxC m c) _ (own_landed m c inb)))) $$ Hp

/-- A piece made of two is the two. -/
theorem pc_union (c : Dev nD) (b : Ref sig .tc) {I J : Finset b.ty.Idx} (h : Disjoint I J) (f : b.ty.Contents (Elt F)) :
    (pc c b (I ∪ J) f : sProp 𝕄) = iprop(pc c b I f ∗ pc c b J f) :=
  Entails.antisymm (pointsTo_union h).1 (pointsTo_union h).2

theorem colsG_disj {t u : Fin 8} (h : t ≠ u) : Disjoint (colsG t) (colsG u) :=
  Finset.disjoint_left.mpr fun i h1 h2 => h (Fin.ext ((mem_colsG.mp h1).symm.trans (mem_colsG.mp h2)))
theorem halfW_disj {p q : Fin 2 × Fin 2} (h : p ≠ q) : Disjoint (halfW p) (halfW q) :=
  Finset.disjoint_left.mpr fun i h1 h2 => h (Prod.ext (Fin.ext ((mem_halfW.mp h1).1.symm.trans (mem_halfW.mp h2).1))
    (Fin.ext ((mem_halfW.mp h1).2.symm.trans (mem_halfW.mp h2).2)))

/-- The load of the gathered columns of step `ch`, -/
theorem load_g (c : Dev nD) (ch : Fin 4) (t u : Fin 8) (ht : t.val = 2 * ch.val) (hu : u.val = 2 * ch.val + 1)
    {inb : ∀ a, (![0, 512 * ch.val] : Fin 2 → Nat) a + S256x512.size a ≤ S256x2048.size a}
    {hl : gM.view.LoadsAt (Rect.unit (s := S256x2048) ![0, 512 * ch.val] S256x512.size inb).toLoadRect} {kk : Vec F S256x512 .bf16 → Prog (TpuEff nD τ sig (Elt F) Λ₀ .tc) α} :
    iprop(pc c cc0_scratch2 (colsG t) (gxC m c) ∗ pc c cc0_scratch2 (colsG u) (gxC m c))
      ⊢ iprop(((pc c cc0_scratch2 (colsG t) (gxC m c) ∗ pc c cc0_scratch2 (colsG u) (gxC m c)) -∗ WP c (kk (gCh m c ch)) Q)
      -∗ WP c (.op (.load gM (Rect.unit (s := S256x2048) ![0, 512 * ch.val] S256x512.size inb).toLoadRect hl) kk) Q) := by
  have hd : Disjoint (colsG t) (colsG u) := colsG_disj (fun h => by rw [h] at ht; omega)
  have hs : (gM.access (Rect.unit (s := S256x2048) ![0, 512 * ch.val] S256x512.size inb)).set ⊆ colsG t ∪ colsG u := by
    intro i hi
    have hi' := (Finset.ext_iff.mp (View.set_slice_whole _ _) i).mp hi
    have h : 512 * ch.val ≤ (i 1).val ∧ (i 1).val < 512 * ch.val + 512 := (Rect.mem_set_unit (s := S256x2048)).mp hi' 1
    rw [Finset.mem_union, mem_colsG, mem_colsG]
    omega
  have e : (gM.access (Rect.unit (s := S256x2048) ![0, 512 * ch.val] S256x512.size inb)).read (Elt F) (gxC m c) = gCh m c ch := by
    funext x
    refine congrArg (gxC m c) ?_
    funext a
    match a with
    | 0 => exact Fin.ext (by show 0 + 1 * (x 0).val = (x 0).val; omega)
    | 1 => exact Fin.ext (by show 512 * ch.val + 1 * (x 1).val = 512 * ch.val + (x 1).val; omega)
  have h := wp_load_rect (m := gM) (r := Rect.unit (s := S256x2048) ![0, 512 * ch.val] S256x512.size inb) (hl := hl) (k := kk) (Q := Q)
    (q := fullShare) (f := gxC m c) (defs := defs₀ (F := F)) (Γ := .empty) 𝒱₀ (c : Thread nD τ) none Set.univ hs
  rw [e] at h
  have hj : (((gM.access (Rect.unit (s := S256x2048) ![0, 512 * ch.val] S256x512.size inb)).loc (c : Thread nD τ) ↦[colsG t ∪ colsG u]{fullShare} gxC m c) : sProp 𝕄)
      = iprop(pc c cc0_scratch2 (colsG t) (gxC m c) ∗ pc c cc0_scratch2 (colsG u) (gxC m c)) := pc_union c cc0_scratch2 hd (gxC m c)
  rw [hj] at h
  exact h

/-- of the weights of step `ch`. -/
theorem load_w (c : Dev nD) (ch : Fin 4) (s : Fin 2) (hs : s.val = ch.val % 2)
    {inb : ∀ a, (![s.val, 0, 0] : Fin 3 → Nat) a + S1x512x2048.size a ≤ S2x512x2048.size a}
    {hl : wM.view.LoadsAt (Rect.unit (s := S2x512x2048) ![s.val, 0, 0] S1x512x2048.size inb).toLoadRect} {kk : Vec F S1x512x2048 .f32 → Prog (TpuEff nD τ sig (Elt F) Λ₀ .tc) α} :
    iprop(pc c cc0_scratch3 (halfW (s, 0)) (wbC m c ch) ∗ pc c cc0_scratch3 (halfW (s, 1)) (wbC m c ch))
      ⊢ iprop(((pc c cc0_scratch3 (halfW (s, 0)) (wbC m c ch) ∗ pc c cc0_scratch3 (halfW (s, 1)) (wbC m c ch)) -∗ WP c (kk (wCh m c ch)) Q)
      -∗ WP c (.op (.load wM (Rect.unit (s := S2x512x2048) ![s.val, 0, 0] S1x512x2048.size inb).toLoadRect hl) kk) Q) := by
  have hd : Disjoint (halfW (s, 0)) (halfW (s, 1)) := halfW_disj (fun h => absurd (show (0 : Fin 2) = 1 from congrArg Prod.snd h) (by decide))
  have hsub : (wM.access (Rect.unit (s := S2x512x2048) ![s.val, 0, 0] S1x512x2048.size inb)).set ⊆ halfW (s, 0) ∪ halfW (s, 1) := by
    intro i hi
    have hi' := (Finset.ext_iff.mp (View.set_slice_whole _ _) i).mp hi
    have h : s.val ≤ (i 0).val ∧ (i 0).val < s.val + 1 := (Rect.mem_set_unit (s := S2x512x2048)).mp hi' 0
    have h1 : (i 1).val < 512 := (i 1).isLt
    rw [Finset.mem_union, mem_halfW, mem_halfW]
    show ((i 0).val = s.val ∧ (i 1).val / 256 = 0) ∨ ((i 0).val = s.val ∧ (i 1).val / 256 = 1)
    omega
  have e : (wM.access (Rect.unit (s := S2x512x2048) ![s.val, 0, 0] S1x512x2048.size inb)).read (Elt F) (wbC m c ch) = wCh m c ch := by
    funext x
    refine congrArg (wbC m c ch) ?_
    have h0 : (x 0).val < 1 := (x 0).isLt
    funext a
    match a with
    | 0 => exact Fin.ext (by show s.val + 1 * (x 0).val = ch.val % 2; omega)
    | 1 => exact Fin.ext (by show 0 + 1 * (x 1).val = (x 1).val; omega)
    | 2 => exact Fin.ext (by show 0 + 1 * (x 2).val = (x 2).val; omega)
  have h := wp_load_rect (m := wM) (r := Rect.unit (s := S2x512x2048) ![s.val, 0, 0] S1x512x2048.size inb) (hl := hl) (k := kk) (Q := Q)
    (q := fullShare) (f := wbC m c ch) (defs := defs₀ (F := F)) (Γ := .empty) 𝒱₀ (c : Thread nD τ) none Set.univ hsub
  rw [e] at h
  have hj : (((wM.access (Rect.unit (s := S2x512x2048) ![s.val, 0, 0] S1x512x2048.size inb)).loc (c : Thread nD τ) ↦[halfW (s, 0) ∪ halfW (s, 1)]{fullShare} wbC m c ch) : sProp 𝕄)
      = iprop(pc c cc0_scratch3 (halfW (s, 0)) (wbC m c ch) ∗ pc c cc0_scratch3 (halfW (s, 1)) (wbC m c ch)) := pc_union c cc0_scratch3 hd (wbC m c ch)
  rw [hj] at h
  exact h

end Cert.Gather
end
-- ==== Proof.Pieces.lean ====
/-
# Cutting and joining the buffers

The buffers as products of the pieces the transfers move.
-/
module

public import proofs.«01_k».proof.Proof.Moves

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3 eq_ix2 eq_ix3)

variable {F : FTy → Type} [FloatOps F]

local notation "𝕄" => MT nD τ sig Unit (Elt F) ℕ UU ℕ

variable (m : (ℓ : Loc nD τ sig) → Buf (Elt F) ℓ)

/-- A product over the seven shifts, written out. -/
theorem fam7 (Φ : Fin 7 → sProp 𝕄) : bigSep Finset.univ Φ = iprop(Φ 0 ∗ Φ 1 ∗ Φ 2 ∗ Φ 3 ∗ Φ 4 ∗ Φ 5 ∗ Φ 6) := by
  rw [bigSep_univ_eq_bigSepL [0, 1, 2, 3, 4, 5, 6] (by decide) (by decide)]; rfl
/-- A product over eight pieces, written out. -/
theorem fam8 (Φ : Fin 8 → sProp 𝕄) : bigSep Finset.univ Φ = iprop(Φ 0 ∗ Φ 1 ∗ Φ 2 ∗ Φ 3 ∗ Φ 4 ∗ Φ 5 ∗ Φ 6 ∗ Φ 7) := by
  rw [bigSep_univ_eq_bigSepL [0, 1, 2, 3, 4, 5, 6, 7] (by decide) (by decide)]; rfl
/-- A product over the four halves, written out. -/
theorem fam4 (Φ : Fin 2 × Fin 2 → sProp 𝕄) : bigSep Finset.univ Φ = iprop(Φ (0, 0) ∗ Φ (0, 1) ∗ Φ (1, 0) ∗ Φ (1, 1)) := by
  rw [bigSep_univ_eq_bigSepL [(0, 0), (0, 1), (1, 0), (1, 1)] (by decide) (by decide)]; rfl

/-- A buffer is its pieces, where these are disjoint and cover it. -/
theorem cut {T : Type} [Fintype T] (c : Dev nD) (b : Ref sig .tc) (K : T → Finset b.ty.Idx) (hd : ∀ t t', t ≠ t' → Disjoint (K t) (K t'))
    (hc : ∀ i, ∃ t, i ∈ K t) (f : b.ty.Contents (Elt F)) :
    (pc c b Finset.univ f : sProp 𝕄) = bigSep Finset.univ fun t => pc c b (K t) f := by
  classical
  have hu : (Finset.univ : Finset b.ty.Idx) = Finset.univ.biUnion K := by
    ext i; obtain ⟨t, ht⟩ := hc i
    exact ⟨fun _ => Finset.mem_biUnion.mpr ⟨t, Finset.mem_univ _, ht⟩, fun _ => Finset.mem_univ _⟩
  unfold pc
  rw [hu]
  exact pointsTo_biUnion (ℓ := (c : Thread nD τ).loc b) Finset.univ K fun t _ t' _ h => hd t t' h

theorem rowsB_disj (c : Dev nD) (e e' : Fin 8) (h : e ≠ e') : Disjoint (rowsB c e) (rowsB c e') :=
  Finset.disjoint_left.mpr fun i h1 h2 => h (by
    have a := mem_rowsB.mp h1; have b := mem_rowsB.mp h2; have hc : c.val < 8 := c.isLt
    exact Fin.ext (by omega))
theorem rowsB_cover (c : Dev nD) (i : S2048x256.Idx) : ∃ e, i ∈ rowsB c e := by
  have h0 : (i 0).val < 2048 := (i 0).isLt
  have hc : c.val < 8 := c.isLt
  refine ⟨⟨((i 0).val / 256 + 8 - c.val) % 8, Nat.mod_lt _ (by decide)⟩, mem_rowsB.mpr ?_⟩
  show (i 0).val / 256 = (c.val + ((i 0).val / 256 + 8 - c.val) % 8) % 8
  omega
theorem rowsW_disj (c : Dev nD) (e e' : Fin 8) (h : e ≠ e') : Disjoint (rowsW c e) (rowsW c e') :=
  Finset.disjoint_left.mpr fun i h1 h2 => h (by
    have a : (i 0).val / 256 = (c.val + 8 - e.val) % 8 := mem_rowsW.mp h1
    have b : (i 0).val / 256 = (c.val + 8 - e'.val) % 8 := mem_rowsW.mp h2
    have hc : c.val < 8 := c.isLt
    exact Fin.ext (by omega))
theorem rowsW_cover (c : Dev nD) (i : S2048x2048.Idx) : ∃ e, i ∈ rowsW c e := by
  have h0 : (i 0).val < 2048 := (i 0).isLt
  have hc : c.val < 8 := c.isLt
  refine ⟨⟨(c.val + 8 - (i 0).val / 256) % 8, Nat.mod_lt _ (by decide)⟩, mem_rowsW.mpr ?_⟩
  show (i 0).val / 256 = (c.val + 8 - (c.val + 8 - (i 0).val / 256) % 8) % 8
  omega
theorem colsG_cover (i : S256x2048.Idx) : ∃ t, i ∈ colsG t := by
  have h0 : (i 1).val < 2048 := (i 1).isLt
  exact ⟨⟨(i 1).val / 256, by omega⟩, mem_colsG.mpr rfl⟩
theorem halfW_cover (i : S2x512x2048.Idx) : ∃ p, i ∈ halfW p := by
  have h0 : (i 0).val < 2 := (i 0).isLt
  have h1 : (i 1).val < 512 := (i 1).isLt
  exact ⟨(⟨(i 0).val, h0⟩, ⟨(i 1).val / 256, by omega⟩), mem_halfW.mpr ⟨rfl, rfl⟩⟩

/-- The rounded operand is its eight row blocks; -/
theorem cut_b (c : Dev nD) (f : cc0_scratch1.ty.Contents (Elt F)) :
    (pc c cc0_scratch1 Finset.univ f : sProp 𝕄) = bigSep Finset.univ fun e => pc c cc0_scratch1 (rowsB c e) f :=
  cut c cc0_scratch1 (rowsB c) (rowsB_disj c) (rowsB_cover c) f
/-- the weights are their eight row blocks; -/
theorem cut_w (c : Dev nD) (f : main_arg1.ty.Contents (Elt F)) :
    (pc c main_arg1 Finset.univ f : sProp 𝕄) = bigSep Finset.univ fun e => pc c main_arg1 (rowsW c e) f :=
  cut c main_arg1 (rowsW c) (rowsW_disj c) (rowsW_cover c) f
/-- the gather buffer is its eight column blocks; -/
theorem cut_g (c : Dev nD) (f : cc0_scratch2.ty.Contents (Elt F)) :
    (pc c cc0_scratch2 Finset.univ f : sProp 𝕄) = bigSep Finset.univ fun t => pc c cc0_scratch2 (colsG t) f :=
  cut c cc0_scratch2 colsG (fun _ _ => colsG_disj) colsG_cover f
/-- the weights' buffer is its four halves. -/
theorem cut_h (c : Dev nD) (f : cc0_scratch3.ty.Contents (Elt F)) :
    (pc c cc0_scratch3 Finset.univ f : sProp 𝕄) = bigSep Finset.univ fun p => pc c cc0_scratch3 (halfW p) f :=
  cut c cc0_scratch3 halfW (fun _ _ => halfW_disj) halfW_cover f

/-- Four halves with any contents make the weights' buffer with some. -/
theorem join_h (c : Dev nD) (f : Fin 2 × Fin 2 → cc0_scratch3.ty.Contents (Elt F)) :
    (bigSep Finset.univ fun p => pc c cc0_scratch3 (halfW p) (f p) : sProp 𝕄) ⊢ iprop(∃ g, pc c cc0_scratch3 Finset.univ g) := by
  classical
  have hu : (Finset.univ : Finset cc0_scratch3.ty.Idx) = Finset.univ.biUnion halfW := by
    ext i; obtain ⟨t, ht⟩ := halfW_cover i
    exact ⟨fun _ => Finset.mem_biUnion.mpr ⟨t, Finset.mem_univ _, ht⟩, fun _ => Finset.mem_univ _⟩
  unfold pc
  rw [hu]
  refine (pointsTo_biUnion_join (ℓ := (c : Thread nD τ).loc cc0_scratch3) Finset.univ halfW f (f (0, 0)) fun t _ t' _ h => halfW_disj h).trans ?_
  iintro ⟨%g, -, Hg⟩
  iexists g; iexact Hg

/-- The rounded operand, cut. -/
theorem split_b (c : Dev nD) (f : cc0_scratch1.ty.Contents (Elt F)) :
    (pc c cc0_scratch1 Finset.univ f : sProp 𝕄) ⊢ iprop(pc c cc0_scratch1 (rowsB c 0) f ∗ pc c cc0_scratch1 (rowsB c 1) f ∗ pc c cc0_scratch1 (rowsB c 2) f
      ∗ pc c cc0_scratch1 (rowsB c 3) f ∗ pc c cc0_scratch1 (rowsB c 4) f ∗ pc c cc0_scratch1 (rowsB c 5) f ∗ pc c cc0_scratch1 (rowsB c 6) f
      ∗ pc c cc0_scratch1 (rowsB c 7) f) := by
  rw [cut_b, fam8]

end Cert.Gather
end
-- ==== Proof.Parts.lean ====
/-
# The body, part by part

For each part of the body, from what it uses: what it leaves.
-/
module

public import proofs.«01_k».proof.Proof.Pieces

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3 eq_ix2 eq_ix3)

variable {F : FTy → Type} [FloatOps F]

local notation "𝕄" => MT nD τ sig Unit (Elt F) ℕ UU ℕ

variable (m : (ℓ : Loc nD τ sig) → Buf (Elt F) ℓ)

/-- The transfers of the operand and of the weights' first block start. -/
theorem part1 (c : Dev nD) (f0 : cc0_scratch0.ty.Contents (Elt F)) (f3 : cc0_scratch3.ty.Contents (Elt F)) {Q : (Σ' (d0 : Dev nD), BitVec 32) → sProp 𝕄} :
    iprop(pc c main_arg0 Finset.univ (xC m c) ∗ pc c cc0_scratch0 Finset.univ f0 ∗ semVal ((c : Thread nD τ), SemLoc.dma xQ) 0 ∗ pc c main_arg1 (rowsW c 0) (wC m c)
        ∗ pc c cc0_scratch3 (halfW (0, 0)) f3 ∗ semVal ((c : Thread nD τ), SemLoc.dma (wQ (0, 0))) 0)
      ⊢ iprop(((flX m c ∗ flW m c 0 0 0 0) -∗ ∀ v, Q ⟨c, v⟩)
        -∗ WP c (k0_part1 x0 (Memref.isWhole_whole _) w0 (Memref.isWhole_whole _) o0 (Memref.isWhole_whole _) xM (Memref.isWhole_whole _)
            bM (Memref.isWhole_whole _) gM (Memref.isWhole_whole _) wM (Memref.isWhole_whole _) aM (Memref.isWhole_whole _)
            cc0_scratch5 cc0_scratch6 cc0_scratch7 cc0_scratch8 cc0_scratch9 cc0_scratch10 ) Q) := by
  rw [k0_part1_eq_skeleton]
  unfold k0_part1_skel
  simp only [semSignalWord, semWaitWord, Prog.lift, Prog.bind_op, Prog.bind_ret, Prog.pure_eq_ret, wp_deviceId]
  iintro ⟨HX, HXS, HSX, HW0, HR00, HSW00⟩ Hk
  iapply (step_x m c f0) $$ [HX HXS HSX]
  · isplitl [HX]; · iexact HX
    isplitl [HXS]; · iexact HXS
    iexact HSX
  iintro HFX
  iapply (step_w m c 0 0 0 0 rfl f3) $$ [HW0 HR00 HSW00]
  · isplitl [HW0]; · iexact HW0
    isplitl [HR00]; · iexact HR00
    iexact HSW00
  iintro HF0000
  unfold WP
  rw [wp_ret]; imodintro
  ispecialize Hk $$ [HFX HF0000]
  · isplitl [HFX]; · iexact HFX
    iexact HF0000
  iapply Hk

/-- A second block of the weights; the first two barrier signals. -/
theorem part2 (c : Dev nD) (f2 : cc0_scratch2.ty.Contents (Elt F)) (f3 : cc0_scratch3.ty.Contents (Elt F)) (v2 : BitVec 32) {Q : (Sems sig S_) → sProp 𝕄} :
    iprop(env m ∗ pc c main_arg1 (rowsW c 2) (wC m c) ∗ pc c cc0_scratch3 (halfW (0, 1)) f3 ∗ semVal ((c : Thread nD τ), SemLoc.dma (wQ (0, 1))) 0
        ∗ Ow c 0 ∗ dutyTok ER (barCell (up c 0)) 0 (rev 0) ∗ pc c cc0_scratch2 (colsG (slot (rev 0))) f2 ∗ dutyTok ER (barCell (up c 1)) 0 (rev 1)
        ∗ pc c cc0_scratch2 (colsG (slot (rev 1))) f2)
      ⊢ iprop(((flW m c 0 0 1 2 ∗ Ow c 2) -∗ Q (SemArray.scalar (sig.barrier 0 rfl)))
        -∗ WP c (k0_part2 x0 (Memref.isWhole_whole _) w0 (Memref.isWhole_whole _) o0 (Memref.isWhole_whole _) xM (Memref.isWhole_whole _)
            bM (Memref.isWhole_whole _) gM (Memref.isWhole_whole _) wM (Memref.isWhole_whole _) aM (Memref.isWhole_whole _)
            cc0_scratch5 cc0_scratch6 cc0_scratch7 cc0_scratch8 cc0_scratch9 cc0_scratch10 c v2) Q) := by
  rw [k0_part2_eq_skeleton]
  unfold k0_part2_skel
  simp only [semSignalWord, semWaitWord, Prog.lift, Prog.bind_op, Prog.bind_ret, Prog.pure_eq_ret, wp_deviceId]
  iintro ⟨#He, HW2, HR01, HSW01, HOw0, HTB0, HGP0, HTB1, HGP1⟩ Hk
  iapply (step_w m c 0 0 1 2 rfl f3) $$ [HW2 HR01 HSW01]
  · isplitl [HW2]; · iexact HW2
    isplitl [HR01]; · iexact HR01
    iexact HSW01
  iintro HF0012
  iapply (step_bar m c 0 _ (dev1_eq c) _ rfl f2) $$ [HOw0 HTB0 HGP0]
  · isplitr; · iexact He
    isplitl [HOw0]; · iexact HOw0
    isplitl [HTB0]; · iexact HTB0
    iexact HGP0
  iintro HOw1
  iapply (step_bar m c 1 _ (dev2_eq c) _ rfl f2) $$ [HOw1 HTB1 HGP1]
  · isplitr; · iexact He
    isplitl [HOw1]; · iexact HOw1
    isplitl [HTB1]; · iexact HTB1
    iexact HGP1
  iintro HOw2
  unfold WP
  rw [wp_ret]; imodintro
  ispecialize Hk $$ [HF0012 HOw2]
  · isplitl [HF0012]; · iexact HF0012
    iexact HOw2
  iapply Hk

/-- Two more barrier signals. -/
theorem part3 (c : Dev nD) (f2 : cc0_scratch2.ty.Contents (Elt F)) (v2 : BitVec 32) {Q : (Σ' (v92 : BitVec 32) (v93 : BitVec 32) (v94 : BitVec 1), BitVec 1) → sProp 𝕄} :
    iprop(env m ∗ Ow c 2 ∗ dutyTok ER (barCell (up c 2)) 0 (rev 2) ∗ pc c cc0_scratch2 (colsG (slot (rev 2))) f2
        ∗ dutyTok ER (barCell (up c 3)) 0 (rev 3) ∗ pc c cc0_scratch2 (colsG (slot (rev 3))) f2)
      ⊢ iprop(((Ow c 4) -∗ ∀ v, Q v)
        -∗ WP c (k0_part3 x0 (Memref.isWhole_whole _) w0 (Memref.isWhole_whole _) o0 (Memref.isWhole_whole _) xM (Memref.isWhole_whole _)
            bM (Memref.isWhole_whole _) gM (Memref.isWhole_whole _) wM (Memref.isWhole_whole _) aM (Memref.isWhole_whole _)
            cc0_scratch5 cc0_scratch6 cc0_scratch7 cc0_scratch8 cc0_scratch9 cc0_scratch10 c v2 (SemArray.scalar (sig.barrier 0 rfl))) Q) := by
  rw [k0_part3_eq_skeleton]
  unfold k0_part3_skel
  simp only [semSignalWord, semWaitWord, Prog.lift, Prog.bind_op, Prog.bind_ret, Prog.pure_eq_ret, wp_deviceId]
  iintro ⟨#He, HOw2, HTB2, HGP2, HTB3, HGP3⟩ Hk
  iapply (step_bar m c 2 _ (dev3_eq c) _ rfl f2) $$ [HOw2 HTB2 HGP2]
  · isplitr; · iexact He
    isplitl [HOw2]; · iexact HOw2
    isplitl [HTB2]; · iexact HTB2
    iexact HGP2
  iintro HOw3
  iapply (step_bar m c 3 _ (dev4_eq c) _ rfl f2) $$ [HOw3 HTB3 HGP3]
  · isplitr; · iexact He
    isplitl [HOw3]; · iexact HOw3
    isplitl [HTB3]; · iexact HTB3
    iexact HGP3
  iintro HOw4
  unfold WP
  rw [wp_ret]; imodintro
  ispecialize Hk $$ [HOw4]
  · iexact HOw4
  iapply Hk

/-- The last three barrier signals. -/
theorem part4 (c : Dev nD) (f2 : cc0_scratch2.ty.Contents (Elt F)) (v2 : BitVec 32) (v92 : BitVec 32) (v93 : BitVec 32) (v94 : BitVec 1) (v95 : BitVec 1) {Q : (PUnit) → sProp 𝕄} :
    iprop(env m ∗ Ow c 4 ∗ dutyTok ER (barCell (up c 4)) 0 (rev 4) ∗ pc c cc0_scratch2 (colsG (slot (rev 4))) f2
        ∗ dutyTok ER (barCell (up c 5)) 0 (rev 5) ∗ pc c cc0_scratch2 (colsG (slot (rev 5))) f2 ∗ dutyTok ER (barCell (up c 6)) 0 (rev 6) ∗ pc c cc0_scratch2 (colsG (slot (rev 6))) f2)
      ⊢ iprop(((Ow c 7) -∗ Q ⟨⟩)
        -∗ WP c (k0_part4 x0 (Memref.isWhole_whole _) w0 (Memref.isWhole_whole _) o0 (Memref.isWhole_whole _) xM (Memref.isWhole_whole _)
            bM (Memref.isWhole_whole _) gM (Memref.isWhole_whole _) wM (Memref.isWhole_whole _) aM (Memref.isWhole_whole _)
            cc0_scratch5 cc0_scratch6 cc0_scratch7 cc0_scratch8 cc0_scratch9 cc0_scratch10 c v2 (SemArray.scalar (sig.barrier 0 rfl)) v92 v93 v94 v95) Q) := by
  rw [k0_part4_eq_skeleton]
  unfold k0_part4_skel
  simp only [semSignalWord, semWaitWord, Prog.lift, Prog.bind_op, Prog.bind_ret, Prog.pure_eq_ret, wp_deviceId]
  iintro ⟨#He, HOw4, HTB4, HGP4, HTB5, HGP5, HTB6, HGP6⟩ Hk
  iapply (step_bar m c 4 _ (dev5_eq c) _ rfl f2) $$ [HOw4 HTB4 HGP4]
  · isplitr; · iexact He
    isplitl [HOw4]; · iexact HOw4
    isplitl [HTB4]; · iexact HTB4
    iexact HGP4
  iintro HOw5
  iapply (step_bar m c 5 _ (dev6_eq c) _ rfl f2) $$ [HOw5 HTB5 HGP5]
  · isplitr; · iexact He
    isplitl [HOw5]; · iexact HOw5
    isplitl [HTB5]; · iexact HTB5
    iexact HGP5
  iintro HOw6
  iapply (step_bar m c 6 _ (dev7_eq c) _ rfl f2) $$ [HOw6 HTB6 HGP6]
  · isplitr; · iexact He
    isplitl [HOw6]; · iexact HOw6
    isplitl [HTB6]; · iexact HTB6
    iexact HGP6
  iintro HOw7
  unfold WP
  rw [wp_ret]; imodintro
  ispecialize Hk $$ [HOw7]
  · iexact HOw7
  iapply Hk

/-- The operand is rounded, the barrier passed, and the transfer of shift 2 starts. -/
theorem part5 (c : Dev nD) (f1 : cc0_scratch1.ty.Contents (Elt F)) (v2 : BitVec 32) {Q : (Σ' (v156 : BitVec 32) (v157 : BitVec 32), BitVec 1) → sProp 𝕄} :
    iprop(env m ∗ Ow c 7 ∗ flX m c ∗ pc c cc0_scratch1 Finset.univ f1
        ∗ cred (tallyAt (barCell c) () 7) ∗ atPos ER (barCell c) 0 ∅ 0 ∗ dutyTok ER (sendCell c 1) 0 0 ∗ dutyTok ER (recvCell (up c 1) 1) 0 0)
      ⊢ iprop(((semVal ((c : Thread nD τ), SemLoc.dma xQ) 0 ∗ pc c main_arg0 Finset.univ (xC m c) ∗ pc c cc0_scratch0 Finset.univ (xC m c) ∗ pc c cc0_scratch1 (rowsB c 0) (xbC m c)
        ∗ pc c cc0_scratch1 (rowsB c 1) (xbC m c) ∗ pc c cc0_scratch1 (rowsB c 3) (xbC m c) ∗ pc c cc0_scratch1 (rowsB c 4) (xbC m c) ∗ pc c cc0_scratch1 (rowsB c 5) (xbC m c)
        ∗ pc c cc0_scratch1 (rowsB c 6) (xbC m c) ∗ pc c cc0_scratch1 (rowsB c 7) (xbC m c) ∗ atPos ER (barCell c) 1 ∅ 0 ∗ hole (F := F) c 0
        ∗ hole (F := F) c 2 ∗ hole (F := F) c 3 ∗ hole (F := F) c 4 ∗ hole (F := F) c 5
        ∗ hole (F := F) c 6 ∗ Ow c 8 ∗ cred (tallyAt (sendCell c 1) () N)) -∗ ∀ v, Q v)
        -∗ WP c (k0_part5 x0 (Memref.isWhole_whole _) w0 (Memref.isWhole_whole _) o0 (Memref.isWhole_whole _) xM (Memref.isWhole_whole _)
            bM (Memref.isWhole_whole _) gM (Memref.isWhole_whole _) wM (Memref.isWhole_whole _) aM (Memref.isWhole_whole _)
            cc0_scratch5 cc0_scratch6 cc0_scratch7 cc0_scratch8 cc0_scratch9 cc0_scratch10 c v2 (SemArray.scalar (sig.barrier 0 rfl))) Q) := by
  rw [k0_part5_eq_skeleton]
  unfold k0_part5_skel
  simp only [semSignalWord, semWaitWord, Prog.lift, Prog.bind_op, Prog.bind_ret, Prog.pure_eq_ret, wp_deviceId]
  iintro ⟨#He, HOw7, HFX, HB, HCB, HAB_0, HTS1, HTR1⟩ Hk
  iapply (step_xwait m c) $$ [HOw7 HFX]
  · isplitr; · iexact He
    isplitl [HOw7]; · iexact HOw7
    iexact HFX
  iintro ⟨HOw7, HSX, HXL, HX⟩
  iapply (load_x c (xC m c)) $$ [HXL]
  · iexact HXL
  iintro HXL
  iapply (load_b c f1) $$ [HB]
  · iexact HB
  iintro HB
  iapply (store_b c f1 (xbC m c)) $$ [HB]
  · iexact HB
  iintro HBL
  ihave Hsp := (split_b c (xbC m c)) $$ HBL
  icases Hsp with ⟨HB0, HB1, HB2, HB3, HB4, HB5, HB6, HB7⟩
  iapply (step_barwait m c _ rfl) $$ [HOw7 HCB HAB_0]
  · isplitr; · iexact He
    isplitl [HOw7]; · iexact HOw7
    isplitl [HCB]; · iexact HCB
    iexact HAB_0
  iintro ⟨HOw7, HAB_1, HH0, HH1, HH2, HH3, HH4, HH5, HH6⟩
  iapply (step_send m c 7 1 _ (dev8_eq c) rfl) $$ [HOw7 HB2 HH1 HTS1 HTR1]
  · isplitr; · iexact He
    isplitl [HOw7]; · iexact HOw7
    isplitl [HB2]; · iexact HB2
    isplitl [HH1]; · iexact HH1
    isplitl [HTS1]; · iexact HTS1
    iexact HTR1
  iintro ⟨HOw8, HCS1⟩
  unfold WP
  rw [wp_ret]; imodintro
  ispecialize Hk $$ [HSX HX HXL HB0 HB1 HB3 HB4 HB5 HB6 HB7 HAB_1 HH0 HH2 HH3 HH4 HH5 HH6 HOw8 HCS1]
  · isplitl [HSX]; · iexact HSX
    isplitl [HX]; · iexact HX
    isplitl [HXL]; · iexact HXL
    isplitl [HB0]; · iexact HB0
    isplitl [HB1]; · iexact HB1
    isplitl [HB3]; · iexact HB3
    isplitl [HB4]; · iexact HB4
    isplitl [HB5]; · iexact HB5
    isplitl [HB6]; · iexact HB6
    isplitl [HB7]; · iexact HB7
    isplitl [HAB_1]; · iexact HAB_1
    isplitl [HH0]; · iexact HH0
    isplitl [HH2]; · iexact HH2
    isplitl [HH3]; · iexact HH3
    isplitl [HH4]; · iexact HH4
    isplitl [HH5]; · iexact HH5
    isplitl [HH6]; · iexact HH6
    isplitl [HOw8]; · iexact HOw8
    iexact HCS1
  iapply Hk

/-- The transfer of shift 6. -/
theorem part6 (c : Dev nD) (v2 : BitVec 32) (v156 : BitVec 32) (v157 : BitVec 32) (v158 : BitVec 1) {Q : (PUnit) → sProp 𝕄} :
    iprop(env m ∗ Ow c 8 ∗ pc c cc0_scratch1 (rowsB c 6) (xbC m c) ∗ hole (F := F) c 5
        ∗ dutyTok ER (sendCell c 5) 0 0 ∗ dutyTok ER (recvCell (up c 5) 5) 0 0)
      ⊢ iprop(((Ow c 9 ∗ cred (tallyAt (sendCell c 5) () N)) -∗ Q ⟨⟩)
        -∗ WP c (k0_part6 x0 (Memref.isWhole_whole _) w0 (Memref.isWhole_whole _) o0 (Memref.isWhole_whole _) xM (Memref.isWhole_whole _)
            bM (Memref.isWhole_whole _) gM (Memref.isWhole_whole _) wM (Memref.isWhole_whole _) aM (Memref.isWhole_whole _)
            cc0_scratch5 cc0_scratch6 cc0_scratch7 cc0_scratch8 cc0_scratch9 cc0_scratch10 c v2 v156 v157 v158) Q) := by
  rw [k0_part6_eq_skeleton]
  unfold k0_part6_skel
  simp only [semSignalWord, semWaitWord, Prog.lift, Prog.bind_op, Prog.bind_ret, Prog.pure_eq_ret, wp_deviceId]
  iintro ⟨#He, HOw8, HB6, HH5, HTS5, HTR5⟩ Hk
  iapply (step_send m c 8 5 _ (dev9_eq c) rfl) $$ [HOw8 HB6 HH5 HTS5 HTR5]
  · isplitr; · iexact He
    isplitl [HOw8]; · iexact HOw8
    isplitl [HB6]; · iexact HB6
    isplitl [HH5]; · iexact HH5
    isplitl [HTS5]; · iexact HTS5
    iexact HTR5
  iintro ⟨HOw9, HCS5⟩
  unfold WP
  rw [wp_ret]; imodintro
  ispecialize Hk $$ [HOw9 HCS5]
  · isplitl [HOw9]; · iexact HOw9
    iexact HCS5
  iapply Hk

/-- The transfers of shifts 3 and 5. -/
theorem part7 (c : Dev nD) (v2 : BitVec 32) {Q : (BitVec 32) → sProp 𝕄} :
    iprop(env m ∗ Ow c 9 ∗ pc c cc0_scratch1 (rowsB c 3) (xbC m c) ∗ hole (F := F) c 2
        ∗ dutyTok ER (sendCell c 2) 0 0 ∗ dutyTok ER (recvCell (up c 2) 2) 0 0 ∗ pc c cc0_scratch1 (rowsB c 5) (xbC m c) ∗ hole (F := F) c 4
        ∗ dutyTok ER (sendCell c 4) 0 0 ∗ dutyTok ER (recvCell (up c 4) 4) 0 0)
      ⊢ iprop(((cred (tallyAt (sendCell c 2) () N) ∗ Ow c 11 ∗ cred (tallyAt (sendCell c 4) () N)) -∗ ∀ v, Q v)
        -∗ WP c (k0_part7 x0 (Memref.isWhole_whole _) w0 (Memref.isWhole_whole _) o0 (Memref.isWhole_whole _) xM (Memref.isWhole_whole _)
            bM (Memref.isWhole_whole _) gM (Memref.isWhole_whole _) wM (Memref.isWhole_whole _) aM (Memref.isWhole_whole _)
            cc0_scratch5 cc0_scratch6 cc0_scratch7 cc0_scratch8 cc0_scratch9 cc0_scratch10 c v2) Q) := by
  rw [k0_part7_eq_skeleton]
  unfold k0_part7_skel
  simp only [semSignalWord, semWaitWord, Prog.lift, Prog.bind_op, Prog.bind_ret, Prog.pure_eq_ret, wp_deviceId]
  iintro ⟨#He, HOw9, HB3, HH2, HTS2, HTR2, HB5, HH4, HTS4, HTR4⟩ Hk
  iapply (step_send m c 9 2 _ (dev10_eq c) rfl) $$ [HOw9 HB3 HH2 HTS2 HTR2]
  · isplitr; · iexact He
    isplitl [HOw9]; · iexact HOw9
    isplitl [HB3]; · iexact HB3
    isplitl [HH2]; · iexact HH2
    isplitl [HTS2]; · iexact HTS2
    iexact HTR2
  iintro ⟨HOw10, HCS2⟩
  iapply (step_send m c 10 4 _ (dev11_eq c) rfl) $$ [HOw10 HB5 HH4 HTS4 HTR4]
  · isplitr; · iexact He
    isplitl [HOw10]; · iexact HOw10
    isplitl [HB5]; · iexact HB5
    isplitl [HH4]; · iexact HH4
    isplitl [HTS4]; · iexact HTS4
    iexact HTR4
  iintro ⟨HOw11, HCS4⟩
  unfold WP
  rw [wp_ret]; imodintro
  ispecialize Hk $$ [HCS2 HOw11 HCS4]
  · isplitl [HCS2]; · iexact HCS2
    isplitl [HOw11]; · iexact HOw11
    iexact HCS4
  iapply Hk

/-- The transfers of shifts 1 and 7. -/
theorem part8 (c : Dev nD) (v2 : BitVec 32) (v224 : BitVec 32) {Q : (Σ' (v256 : BitVec 32) (v257 : BitVec 32), BitVec 1) → sProp 𝕄} :
    iprop(env m ∗ Ow c 11 ∗ pc c cc0_scratch1 (rowsB c 1) (xbC m c) ∗ hole (F := F) c 0
        ∗ dutyTok ER (sendCell c 0) 0 0 ∗ dutyTok ER (recvCell (up c 0) 0) 0 0 ∗ pc c cc0_scratch1 (rowsB c 7) (xbC m c) ∗ hole (F := F) c 6
        ∗ dutyTok ER (sendCell c 6) 0 0 ∗ dutyTok ER (recvCell (up c 6) 6) 0 0)
      ⊢ iprop(((cred (tallyAt (sendCell c 0) () N) ∗ Ow c 13 ∗ cred (tallyAt (sendCell c 6) () N)) -∗ ∀ v, Q v)
        -∗ WP c (k0_part8 x0 (Memref.isWhole_whole _) w0 (Memref.isWhole_whole _) o0 (Memref.isWhole_whole _) xM (Memref.isWhole_whole _)
            bM (Memref.isWhole_whole _) gM (Memref.isWhole_whole _) wM (Memref.isWhole_whole _) aM (Memref.isWhole_whole _)
            cc0_scratch5 cc0_scratch6 cc0_scratch7 cc0_scratch8 cc0_scratch9 cc0_scratch10 c v2 v224) Q) := by
  rw [k0_part8_eq_skeleton]
  unfold k0_part8_skel
  simp only [semSignalWord, semWaitWord, Prog.lift, Prog.bind_op, Prog.bind_ret, Prog.pure_eq_ret, wp_deviceId]
  iintro ⟨#He, HOw11, HB1, HH0, HTS0, HTR0, HB7, HH6, HTS6, HTR6⟩ Hk
  iapply (step_send m c 11 0 _ (dev12_eq c) rfl) $$ [HOw11 HB1 HH0 HTS0 HTR0]
  · isplitr; · iexact He
    isplitl [HOw11]; · iexact HOw11
    isplitl [HB1]; · iexact HB1
    isplitl [HH0]; · iexact HH0
    isplitl [HTS0]; · iexact HTS0
    iexact HTR0
  iintro ⟨HOw12, HCS0⟩
  iapply (step_send m c 12 6 _ (dev13_eq c) rfl) $$ [HOw12 HB7 HH6 HTS6 HTR6]
  · isplitr; · iexact He
    isplitl [HOw12]; · iexact HOw12
    isplitl [HB7]; · iexact HB7
    isplitl [HH6]; · iexact HH6
    isplitl [HTS6]; · iexact HTS6
    iexact HTR6
  iintro ⟨HOw13, HCS6⟩
  unfold WP
  rw [wp_ret]; imodintro
  ispecialize Hk $$ [HCS0 HOw13 HCS6]
  · isplitl [HCS0]; · iexact HCS0
    isplitl [HOw13]; · iexact HOw13
    iexact HCS6
  iapply Hk

/-- The transfer of shift 4; the device's own block goes to the gather buffer. -/
theorem part9 (c : Dev nD) (f2 : cc0_scratch2.ty.Contents (Elt F)) (v2 : BitVec 32) (v256 : BitVec 32) (v257 : BitVec 32) (v258 : BitVec 1) {Q : (PUnit) → sProp 𝕄} :
    iprop(env m ∗ Ow c 13 ∗ pc c cc0_scratch1 (rowsB c 4) (xbC m c) ∗ hole (F := F) c 3
        ∗ dutyTok ER (sendCell c 3) 0 0 ∗ dutyTok ER (recvCell (up c 3) 3) 0 0 ∗ pc c cc0_scratch1 (rowsB c 0) (xbC m c) ∗ pc c cc0_scratch2 (colsG 0) f2)
      ⊢ iprop(((Ow c 14 ∗ cred (tallyAt (sendCell c 3) () N) ∗ pc c cc0_scratch1 (rowsB c 0) (xbC m c) ∗ pc c cc0_scratch2 (colsG 0) (gxC m c)) -∗ Q ⟨⟩)
        -∗ WP c (k0_part9 x0 (Memref.isWhole_whole _) w0 (Memref.isWhole_whole _) o0 (Memref.isWhole_whole _) xM (Memref.isWhole_whole _)
            bM (Memref.isWhole_whole _) gM (Memref.isWhole_whole _) wM (Memref.isWhole_whole _) aM (Memref.isWhole_whole _)
            cc0_scratch5 cc0_scratch6 cc0_scratch7 cc0_scratch8 cc0_scratch9 cc0_scratch10 c v2 v256 v257 v258) Q) := by
  rw [k0_part9_eq_skeleton]
  unfold k0_part9_skel
  simp only [semSignalWord, semWaitWord, Prog.lift, Prog.bind_op, Prog.bind_ret, Prog.pure_eq_ret, wp_deviceId]
  iintro ⟨#He, HOw13, HB4, HH3, HTS3, HTR3, HB0, HGz⟩ Hk
  iapply (step_send m c 13 3 _ (dev14_eq c) rfl) $$ [HOw13 HB4 HH3 HTS3 HTR3]
  · isplitr; · iexact He
    isplitl [HOw13]; · iexact HOw13
    isplitl [HB4]; · iexact HB4
    isplitl [HH3]; · iexact HH3
    isplitl [HTS3]; · iexact HTS3
    iexact HTR3
  iintro ⟨HOw14, HCS3⟩
  iapply (load_own m c) $$ [HB0]
  · iexact HB0
  iintro HB0
  iapply (load_g0 c f2) $$ [HGz]
  · iexact HGz
  iintro HGz %v
  iapply (store_g0 m c f2) $$ [HGz]
  · iexact HGz
  iintro HG0
  unfold WP
  rw [wp_ret]; imodintro
  ispecialize Hk $$ [HOw14 HCS3 HB0 HG0]
  · isplitl [HOw14]; · iexact HOw14
    isplitl [HCS3]; · iexact HCS3
    isplitl [HB0]; · iexact HB0
    iexact HG0
  iapply Hk

/-- The weights of step 1 are fetched. -/
theorem part10 (c : Dev nD) (f3 : cc0_scratch3.ty.Contents (Elt F)) (v2 : BitVec 32) {Q : (Σ' (v324 : BitVec 32), BitVec 32) → sProp 𝕄} :
    iprop(pc c main_arg1 (rowsW c 6) (wC m c) ∗ pc c cc0_scratch3 (halfW (1, 0)) f3 ∗ semVal ((c : Thread nD τ), SemLoc.dma (wQ (1, 0))) 0 ∗ pc c main_arg1 (rowsW c 3) (wC m c)
        ∗ pc c cc0_scratch3 (halfW (1, 1)) f3 ∗ semVal ((c : Thread nD τ), SemLoc.dma (wQ (1, 1))) 0)
      ⊢ iprop(((flW m c 1 1 0 6 ∗ flW m c 1 1 1 3) -∗ ∀ v, Q v)
        -∗ WP c (k0_part10 x0 (Memref.isWhole_whole _) w0 (Memref.isWhole_whole _) o0 (Memref.isWhole_whole _) xM (Memref.isWhole_whole _)
            bM (Memref.isWhole_whole _) gM (Memref.isWhole_whole _) wM (Memref.isWhole_whole _) aM (Memref.isWhole_whole _)
            cc0_scratch5 cc0_scratch6 cc0_scratch7 cc0_scratch8 cc0_scratch9 cc0_scratch10 c v2) Q) := by
  rw [k0_part10_eq_skeleton]
  unfold k0_part10_skel
  simp only [semSignalWord, semWaitWord, Prog.lift, Prog.bind_op, Prog.bind_ret, Prog.pure_eq_ret, wp_deviceId]
  iintro ⟨HW6, HR10, HSW10, HW3, HR11, HSW11⟩ Hk
  iapply (step_w m c 1 1 0 6 rfl f3) $$ [HW6 HR10 HSW10]
  · isplitl [HW6]; · iexact HW6
    isplitl [HR10]; · iexact HR10
    iexact HSW10
  iintro HF1106
  iapply (step_w m c 1 1 1 3 rfl f3) $$ [HW3 HR11 HSW11]
  · isplitl [HW3]; · iexact HW3
    isplitl [HR11]; · iexact HR11
    iexact HSW11
  iintro HF1113
  unfold WP
  rw [wp_ret]; imodintro
  ispecialize Hk $$ [HF1106 HF1113]
  · isplitl [HF1106]; · iexact HF1106
    iexact HF1113
  iapply Hk

/-- The weights of step 0 and the block of shift 2 are there. -/
theorem part11 (c : Dev nD) (v2 : BitVec 32) (v324 : BitVec 32) (v325 : BitVec 32) {Q : (PUnit) → sProp 𝕄} :
    iprop(env m ∗ Ow c 14 ∗ flW m c 0 0 0 0 ∗ flW m c 0 0 1 2
        ∗ cred (tallyAt (recvCell c 1) () N) ∗ atPos ER (recvCell c 1) 0 ∅ 0)
      ⊢ iprop(((semVal ((c : Thread nD τ), SemLoc.dma (wQ (0, 0))) 0 ∗ pc c cc0_scratch3 (halfW (0, 0)) (wbC m c 0) ∗ pc c main_arg1 (rowsW c 0) (wC m c) ∗ semVal ((c : Thread nD τ), SemLoc.dma (wQ (0, 1))) 0
        ∗ pc c cc0_scratch3 (halfW (0, 1)) (wbC m c 0) ∗ pc c main_arg1 (rowsW c 2) (wC m c) ∗ Ow c 14 ∗ atPos ER (recvCell c 1) 1 ∅ 0
        ∗ pc c cc0_scratch2 (colsG 1) (gxC m c)) -∗ Q ⟨⟩)
        -∗ WP c (k0_part11 x0 (Memref.isWhole_whole _) w0 (Memref.isWhole_whole _) o0 (Memref.isWhole_whole _) xM (Memref.isWhole_whole _)
            bM (Memref.isWhole_whole _) gM (Memref.isWhole_whole _) wM (Memref.isWhole_whole _) aM (Memref.isWhole_whole _)
            cc0_scratch5 cc0_scratch6 cc0_scratch7 cc0_scratch8 cc0_scratch9 cc0_scratch10 c v2 v324 v325) Q) := by
  rw [k0_part11_eq_skeleton]
  unfold k0_part11_skel
  simp only [semSignalWord, semWaitWord, Prog.lift, Prog.bind_op, Prog.bind_ret, Prog.pure_eq_ret, wp_deviceId]
  iintro ⟨#He, HOw14, HF0000, HF0012, HCR1, HAR1_0⟩ Hk
  iapply (step_wwait m c 14 (by decide) 0 0 0 0) $$ [HOw14 HF0000]
  · isplitr; · iexact He
    isplitl [HOw14]; · iexact HOw14
    iexact HF0000
  iintro ⟨HOw14, HSW00, HR00_0, HW0⟩
  iapply (step_wwait m c 14 (by decide) 0 0 1 2) $$ [HOw14 HF0012]
  · isplitr; · iexact He
    isplitl [HOw14]; · iexact HOw14
    iexact HF0012
  iintro ⟨HOw14, HSW01, HR01_0, HW2⟩
  iapply (step_recv m c 14 (by decide) 1) $$ [HOw14 HCR1 HAR1_0]
  · isplitr; · iexact He
    isplitl [HOw14]; · iexact HOw14
    isplitl [HCR1]; · iexact HCR1
    iexact HAR1_0
  iintro ⟨HOw14, HAR1_1, HG1⟩
  unfold WP
  rw [wp_ret]; imodintro
  ispecialize Hk $$ [HSW00 HR00_0 HW0 HSW01 HR01_0 HW2 HOw14 HAR1_1 HG1]
  · isplitl [HSW00]; · iexact HSW00
    isplitl [HR00_0]; · iexact HR00_0
    isplitl [HW0]; · iexact HW0
    isplitl [HSW01]; · iexact HSW01
    isplitl [HR01_0]; · iexact HR01_0
    isplitl [HW2]; · iexact HW2
    isplitl [HOw14]; · iexact HOw14
    isplitl [HAR1_1]; · iexact HAR1_1
    iexact HG1
  iapply Hk

/-- Step 0; a credit. -/
theorem part12 (c : Dev nD) (f4 : cc0_scratch4.ty.Contents (Elt F)) (v2 : BitVec 32) {Q : (PUnit) → sProp 𝕄} :
    iprop(env m ∗ pc c cc0_scratch2 (colsG 0) (gxC m c) ∗ pc c cc0_scratch2 (colsG 1) (gxC m c) ∗ pc c cc0_scratch3 (halfW (0, 0)) (wbC m c 0)
        ∗ pc c cc0_scratch3 (halfW (0, 1)) (wbC m c 0) ∗ pc c cc0_scratch4 Finset.univ f4 ∗ Ow c 14 ∗ dutyTok ER (credCell (dn c 1)) 0 1)
      ⊢ iprop(((pc c cc0_scratch2 (colsG 0) (gxC m c) ∗ pc c cc0_scratch2 (colsG 1) (gxC m c) ∗ pc c cc0_scratch3 (halfW (0, 0)) (wbC m c 0) ∗ pc c cc0_scratch3 (halfW (0, 1)) (wbC m c 0)
        ∗ pc c cc0_scratch4 Finset.univ (acc0 m c) ∗ Ow c 15) -∗ Q ⟨⟩)
        -∗ WP c (k0_part12 x0 (Memref.isWhole_whole _) w0 (Memref.isWhole_whole _) o0 (Memref.isWhole_whole _) xM (Memref.isWhole_whole _)
            bM (Memref.isWhole_whole _) gM (Memref.isWhole_whole _) wM (Memref.isWhole_whole _) aM (Memref.isWhole_whole _)
            cc0_scratch5 cc0_scratch6 cc0_scratch7 cc0_scratch8 cc0_scratch9 cc0_scratch10 c v2) Q) := by
  rw [k0_part12_eq_skeleton]
  unfold k0_part12_skel
  simp only [semSignalWord, semWaitWord, Prog.lift, Prog.bind_op, Prog.bind_ret, Prog.pure_eq_ret, wp_deviceId]
  iintro ⟨#He, HG0, HG1, HR00_0, HR01_0, HA, HOw14, HTC1⟩ Hk
  iapply (load_g m c 0 0 1 rfl rfl) $$ [HG0 HG1]
  · isplitl [HG0]; · iexact HG0
    iexact HG1
  iintro ⟨HG0, HG1⟩
  iapply (load_w m c 0 0 rfl) $$ [HR00_0 HR01_0]
  · isplitl [HR00_0]; · iexact HR00_0
    iexact HR01_0
  iintro ⟨HR00_0, HR01_0⟩
  iapply (load_a c f4) $$ [HA]
  · iexact HA
  iintro HA
  iapply (store_a c f4 (acc0 m c)) $$ [HA]
  · iexact HA
  iintro HA0
  iapply (step_cred m c 14 1 _ (dev15_eq c) _ rfl rfl) $$ [HOw14 HTC1]
  · isplitr; · iexact He
    isplitl [HOw14]; · iexact HOw14
    iexact HTC1
  iintro HOw15
  unfold WP
  rw [wp_ret]; imodintro
  ispecialize Hk $$ [HG0 HG1 HR00_0 HR01_0 HA0 HOw15]
  · isplitl [HG0]; · iexact HG0
    isplitl [HG1]; · iexact HG1
    isplitl [HR00_0]; · iexact HR00_0
    isplitl [HR01_0]; · iexact HR01_0
    isplitl [HA0]; · iexact HA0
    iexact HOw15
  iapply Hk

/-- The weights of step 2 are fetched. -/
theorem part13 (c : Dev nD) (v2 : BitVec 32) {Q : (Σ' (v410 : BitVec 32) (v411 : BitVec 32), BitVec 1) → sProp 𝕄} :
    iprop(pc c main_arg1 (rowsW c 5) (wC m c) ∗ pc c cc0_scratch3 (halfW (0, 0)) (wbC m c 0) ∗ semVal ((c : Thread nD τ), SemLoc.dma (wQ (0, 0))) 0 ∗ pc c main_arg1 (rowsW c 1) (wC m c)
        ∗ pc c cc0_scratch3 (halfW (0, 1)) (wbC m c 0) ∗ semVal ((c : Thread nD τ), SemLoc.dma (wQ (0, 1))) 0)
      ⊢ iprop(((flW m c 2 0 0 5 ∗ flW m c 2 0 1 1) -∗ ∀ v, Q v)
        -∗ WP c (k0_part13 x0 (Memref.isWhole_whole _) w0 (Memref.isWhole_whole _) o0 (Memref.isWhole_whole _) xM (Memref.isWhole_whole _)
            bM (Memref.isWhole_whole _) gM (Memref.isWhole_whole _) wM (Memref.isWhole_whole _) aM (Memref.isWhole_whole _)
            cc0_scratch5 cc0_scratch6 cc0_scratch7 cc0_scratch8 cc0_scratch9 cc0_scratch10 c v2) Q) := by
  rw [k0_part13_eq_skeleton]
  unfold k0_part13_skel
  simp only [semSignalWord, semWaitWord, Prog.lift, Prog.bind_op, Prog.bind_ret, Prog.pure_eq_ret, wp_deviceId]
  iintro ⟨HW5, HR00_0, HSW00, HW1, HR01_0, HSW01⟩ Hk
  iapply (step_w m c 2 0 0 5 rfl (wbC m c 0)) $$ [HW5 HR00_0 HSW00]
  · isplitl [HW5]; · iexact HW5
    isplitl [HR00_0]; · iexact HR00_0
    iexact HSW00
  iintro HF2005
  iapply (step_w m c 2 0 1 1 rfl (wbC m c 0)) $$ [HW1 HR01_0 HSW01]
  · isplitl [HW1]; · iexact HW1
    isplitl [HR01_0]; · iexact HR01_0
    iexact HSW01
  iintro HF2011
  unfold WP
  rw [wp_ret]; imodintro
  ispecialize Hk $$ [HF2005 HF2011]
  · isplitl [HF2005]; · iexact HF2005
    iexact HF2011
  iapply Hk

/-- The weights of step 1 are there. -/
theorem part14 (c : Dev nD) (v2 : BitVec 32) (v410 : BitVec 32) (v411 : BitVec 32) (v416 : BitVec 1) {Q : (PUnit) → sProp 𝕄} :
    iprop(env m ∗ Ow c 15 ∗ flW m c 1 1 0 6 ∗ flW m c 1 1 1 3)
      ⊢ iprop(((semVal ((c : Thread nD τ), SemLoc.dma (wQ (1, 0))) 0 ∗ pc c cc0_scratch3 (halfW (1, 0)) (wbC m c 1) ∗ pc c main_arg1 (rowsW c 6) (wC m c) ∗ Ow c 15
        ∗ semVal ((c : Thread nD τ), SemLoc.dma (wQ (1, 1))) 0 ∗ pc c cc0_scratch3 (halfW (1, 1)) (wbC m c 1) ∗ pc c main_arg1 (rowsW c 3) (wC m c)) -∗ Q ⟨⟩)
        -∗ WP c (k0_part14 x0 (Memref.isWhole_whole _) w0 (Memref.isWhole_whole _) o0 (Memref.isWhole_whole _) xM (Memref.isWhole_whole _)
            bM (Memref.isWhole_whole _) gM (Memref.isWhole_whole _) wM (Memref.isWhole_whole _) aM (Memref.isWhole_whole _)
            cc0_scratch5 cc0_scratch6 cc0_scratch7 cc0_scratch8 cc0_scratch9 cc0_scratch10 c v2 v410 v411 v416) Q) := by
  rw [k0_part14_eq_skeleton]
  unfold k0_part14_skel
  simp only [semSignalWord, semWaitWord, Prog.lift, Prog.bind_op, Prog.bind_ret, Prog.pure_eq_ret, wp_deviceId]
  iintro ⟨#He, HOw15, HF1106, HF1113⟩ Hk
  iapply (step_wwait m c 15 (by decide) 1 1 0 6) $$ [HOw15 HF1106]
  · isplitr; · iexact He
    isplitl [HOw15]; · iexact HOw15
    iexact HF1106
  iintro ⟨HOw15, HSW10, HR10_1, HW6⟩
  iapply (step_wwait m c 15 (by decide) 1 1 1 3) $$ [HOw15 HF1113]
  · isplitr; · iexact He
    isplitl [HOw15]; · iexact HOw15
    iexact HF1113
  iintro ⟨HOw15, HSW11, HR11_1, HW3⟩
  unfold WP
  rw [wp_ret]; imodintro
  ispecialize Hk $$ [HSW10 HR10_1 HW6 HOw15 HSW11 HR11_1 HW3]
  · isplitl [HSW10]; · iexact HSW10
    isplitl [HR10_1]; · iexact HR10_1
    isplitl [HW6]; · iexact HW6
    isplitl [HOw15]; · iexact HOw15
    isplitl [HSW11]; · iexact HSW11
    isplitl [HR11_1]; · iexact HR11_1
    iexact HW3
  iapply Hk

/-- The blocks of shifts 6 and 3 are there; step 1. -/
theorem part15 (c : Dev nD) (v2 : BitVec 32) {Q : (Σ' (v474 : BitVec 32), BitVec 32) → sProp 𝕄} :
    iprop(env m ∗ Ow c 15 ∗ cred (tallyAt (recvCell c 5) () N) ∗ atPos ER (recvCell c 5) 0 ∅ 0
        ∗ cred (tallyAt (recvCell c 2) () N) ∗ atPos ER (recvCell c 2) 0 ∅ 0 ∗ pc c cc0_scratch3 (halfW (1, 0)) (wbC m c 1) ∗ pc c cc0_scratch3 (halfW (1, 1)) (wbC m c 1)
        ∗ pc c cc0_scratch4 Finset.univ (acc0 m c))
      ⊢ iprop(((atPos ER (recvCell c 5) 1 ∅ 0 ∗ Ow c 15 ∗ atPos ER (recvCell c 2) 1 ∅ 0 ∗ pc c cc0_scratch2 (colsG 2) (gxC m c)
        ∗ pc c cc0_scratch2 (colsG 3) (gxC m c) ∗ pc c cc0_scratch3 (halfW (1, 0)) (wbC m c 1) ∗ pc c cc0_scratch3 (halfW (1, 1)) (wbC m c 1) ∗ pc c cc0_scratch4 Finset.univ (acc1 m c)) -∗ ∀ v, Q v)
        -∗ WP c (k0_part15 x0 (Memref.isWhole_whole _) w0 (Memref.isWhole_whole _) o0 (Memref.isWhole_whole _) xM (Memref.isWhole_whole _)
            bM (Memref.isWhole_whole _) gM (Memref.isWhole_whole _) wM (Memref.isWhole_whole _) aM (Memref.isWhole_whole _)
            cc0_scratch5 cc0_scratch6 cc0_scratch7 cc0_scratch8 cc0_scratch9 cc0_scratch10 v2) Q) := by
  rw [k0_part15_eq_skeleton]
  unfold k0_part15_skel
  simp only [semSignalWord, semWaitWord, Prog.lift, Prog.bind_op, Prog.bind_ret, Prog.pure_eq_ret, wp_deviceId]
  iintro ⟨#He, HOw15, HCR5, HAR5_0, HCR2, HAR2_0, HR10_1, HR11_1, HA0⟩ Hk
  iapply (step_recv m c 15 (by decide) 5) $$ [HOw15 HCR5 HAR5_0]
  · isplitr; · iexact He
    isplitl [HOw15]; · iexact HOw15
    isplitl [HCR5]; · iexact HCR5
    iexact HAR5_0
  iintro ⟨HOw15, HAR5_1, HG2⟩
  iapply (step_recv m c 15 (by decide) 2) $$ [HOw15 HCR2 HAR2_0]
  · isplitr; · iexact He
    isplitl [HOw15]; · iexact HOw15
    isplitl [HCR2]; · iexact HCR2
    iexact HAR2_0
  iintro ⟨HOw15, HAR2_1, HG3⟩
  iapply (load_g m c 1 2 3 rfl rfl) $$ [HG2 HG3]
  · isplitl [HG2]; · iexact HG2
    iexact HG3
  iintro ⟨HG2, HG3⟩
  iapply (load_w m c 1 1 rfl) $$ [HR10_1 HR11_1]
  · isplitl [HR10_1]; · iexact HR10_1
    iexact HR11_1
  iintro ⟨HR10_1, HR11_1⟩
  iapply (load_a c (acc0 m c)) $$ [HA0]
  · iexact HA0
  iintro HA0
  iapply (load_a c (acc0 m c)) $$ [HA0]
  · iexact HA0
  iintro HA0
  iapply (store_a c (acc0 m c) (acc1 m c)) $$ [HA0]
  · iexact HA0
  iintro HA1
  unfold WP
  rw [wp_ret]; imodintro
  ispecialize Hk $$ [HAR5_1 HOw15 HAR2_1 HG2 HG3 HR10_1 HR11_1 HA1]
  · isplitl [HAR5_1]; · iexact HAR5_1
    isplitl [HOw15]; · iexact HOw15
    isplitl [HAR2_1]; · iexact HAR2_1
    isplitl [HG2]; · iexact HG2
    isplitl [HG3]; · iexact HG3
    isplitl [HR10_1]; · iexact HR10_1
    isplitl [HR11_1]; · iexact HR11_1
    iexact HA1
  iapply Hk

/-- Two credits; half of the weights of step 3 is fetched. -/
theorem part16 (c : Dev nD) (v2 : BitVec 32) (v474 : BitVec 32) (v475 : BitVec 32) {Q : (BitVec 32) → sProp 𝕄} :
    iprop(env m ∗ Ow c 15 ∗ dutyTok ER (credCell (dn c 5)) 0 5 ∗ dutyTok ER (credCell (dn c 2)) 0 2
        ∗ pc c main_arg1 (rowsW c 7) (wC m c) ∗ pc c cc0_scratch3 (halfW (1, 0)) (wbC m c 1) ∗ semVal ((c : Thread nD τ), SemLoc.dma (wQ (1, 0))) 0)
      ⊢ iprop(((Ow c 17 ∗ flW m c 3 1 0 7) -∗ ∀ v, Q v)
        -∗ WP c (k0_part16 x0 (Memref.isWhole_whole _) w0 (Memref.isWhole_whole _) o0 (Memref.isWhole_whole _) xM (Memref.isWhole_whole _)
            bM (Memref.isWhole_whole _) gM (Memref.isWhole_whole _) wM (Memref.isWhole_whole _) aM (Memref.isWhole_whole _)
            cc0_scratch5 cc0_scratch6 cc0_scratch7 cc0_scratch8 cc0_scratch9 cc0_scratch10 c v2 v474 v475) Q) := by
  rw [k0_part16_eq_skeleton]
  unfold k0_part16_skel
  simp only [semSignalWord, semWaitWord, Prog.lift, Prog.bind_op, Prog.bind_ret, Prog.pure_eq_ret, wp_deviceId]
  iintro ⟨#He, HOw15, HTC5, HTC2, HW7, HR10_1, HSW10⟩ Hk
  iapply (step_cred m c 15 5 _ (dev16_eq c) _ rfl rfl) $$ [HOw15 HTC5]
  · isplitr; · iexact He
    isplitl [HOw15]; · iexact HOw15
    iexact HTC5
  iintro HOw16
  iapply (step_cred m c 16 2 _ (dev17_eq c) _ rfl rfl) $$ [HOw16 HTC2]
  · isplitr; · iexact He
    isplitl [HOw16]; · iexact HOw16
    iexact HTC2
  iintro HOw17
  iapply (step_w m c 3 1 0 7 rfl (wbC m c 1)) $$ [HW7 HR10_1 HSW10]
  · isplitl [HW7]; · iexact HW7
    isplitl [HR10_1]; · iexact HR10_1
    iexact HSW10
  iintro HF3107
  unfold WP
  rw [wp_ret]; imodintro
  ispecialize Hk $$ [HOw17 HF3107]
  · isplitl [HOw17]; · iexact HOw17
    iexact HF3107
  iapply Hk

/-- The other half. -/
theorem part17 (c : Dev nD) (v2 : BitVec 32) (v506 : BitVec 32) {Q : (PUnit) → sProp 𝕄} :
    iprop(pc c main_arg1 (rowsW c 4) (wC m c) ∗ pc c cc0_scratch3 (halfW (1, 1)) (wbC m c 1) ∗ semVal ((c : Thread nD τ), SemLoc.dma (wQ (1, 1))) 0)
      ⊢ iprop(((flW m c 3 1 1 4) -∗ Q ⟨⟩)
        -∗ WP c (k0_part17 x0 (Memref.isWhole_whole _) w0 (Memref.isWhole_whole _) o0 (Memref.isWhole_whole _) xM (Memref.isWhole_whole _)
            bM (Memref.isWhole_whole _) gM (Memref.isWhole_whole _) wM (Memref.isWhole_whole _) aM (Memref.isWhole_whole _)
            cc0_scratch5 cc0_scratch6 cc0_scratch7 cc0_scratch8 cc0_scratch9 cc0_scratch10 c v2 v506) Q) := by
  rw [k0_part17_eq_skeleton]
  unfold k0_part17_skel
  simp only [semSignalWord, semWaitWord, Prog.lift, Prog.bind_op, Prog.bind_ret, Prog.pure_eq_ret, wp_deviceId]
  iintro ⟨HW4, HR11_1, HSW11⟩ Hk
  iapply (step_w m c 3 1 1 4 rfl (wbC m c 1)) $$ [HW4 HR11_1 HSW11]
  · isplitl [HW4]; · iexact HW4
    isplitl [HR11_1]; · iexact HR11_1
    iexact HSW11
  iintro HF3114
  unfold WP
  rw [wp_ret]; imodintro
  ispecialize Hk $$ [HF3114]
  · iexact HF3114
  iapply Hk

/-- The weights of step 2 and the block of shift 5 are there. -/
theorem part18 (c : Dev nD) (v2 : BitVec 32) {Q : (PUnit) → sProp 𝕄} :
    iprop(env m ∗ Ow c 17 ∗ flW m c 2 0 0 5 ∗ flW m c 2 0 1 1
        ∗ cred (tallyAt (recvCell c 4) () N) ∗ atPos ER (recvCell c 4) 0 ∅ 0)
      ⊢ iprop(((semVal ((c : Thread nD τ), SemLoc.dma (wQ (0, 0))) 0 ∗ pc c cc0_scratch3 (halfW (0, 0)) (wbC m c 2) ∗ pc c main_arg1 (rowsW c 5) (wC m c) ∗ semVal ((c : Thread nD τ), SemLoc.dma (wQ (0, 1))) 0
        ∗ pc c cc0_scratch3 (halfW (0, 1)) (wbC m c 2) ∗ pc c main_arg1 (rowsW c 1) (wC m c) ∗ Ow c 17 ∗ atPos ER (recvCell c 4) 1 ∅ 0
        ∗ pc c cc0_scratch2 (colsG 4) (gxC m c)) -∗ Q ⟨⟩)
        -∗ WP c (k0_part18 x0 (Memref.isWhole_whole _) w0 (Memref.isWhole_whole _) o0 (Memref.isWhole_whole _) xM (Memref.isWhole_whole _)
            bM (Memref.isWhole_whole _) gM (Memref.isWhole_whole _) wM (Memref.isWhole_whole _) aM (Memref.isWhole_whole _)
            cc0_scratch5 cc0_scratch6 cc0_scratch7 cc0_scratch8 cc0_scratch9 cc0_scratch10 c v2) Q) := by
  rw [k0_part18_eq_skeleton]
  unfold k0_part18_skel
  simp only [semSignalWord, semWaitWord, Prog.lift, Prog.bind_op, Prog.bind_ret, Prog.pure_eq_ret, wp_deviceId]
  iintro ⟨#He, HOw17, HF2005, HF2011, HCR4, HAR4_0⟩ Hk
  iapply (step_wwait m c 17 (by decide) 2 0 0 5) $$ [HOw17 HF2005]
  · isplitr; · iexact He
    isplitl [HOw17]; · iexact HOw17
    iexact HF2005
  iintro ⟨HOw17, HSW00, HR00_2, HW5⟩
  iapply (step_wwait m c 17 (by decide) 2 0 1 1) $$ [HOw17 HF2011]
  · isplitr; · iexact He
    isplitl [HOw17]; · iexact HOw17
    iexact HF2011
  iintro ⟨HOw17, HSW01, HR01_2, HW1⟩
  iapply (step_recv m c 17 (by decide) 4) $$ [HOw17 HCR4 HAR4_0]
  · isplitr; · iexact He
    isplitl [HOw17]; · iexact HOw17
    isplitl [HCR4]; · iexact HCR4
    iexact HAR4_0
  iintro ⟨HOw17, HAR4_1, HG4⟩
  unfold WP
  rw [wp_ret]; imodintro
  ispecialize Hk $$ [HSW00 HR00_2 HW5 HSW01 HR01_2 HW1 HOw17 HAR4_1 HG4]
  · isplitl [HSW00]; · iexact HSW00
    isplitl [HR00_2]; · iexact HR00_2
    isplitl [HW5]; · iexact HW5
    isplitl [HSW01]; · iexact HSW01
    isplitl [HR01_2]; · iexact HR01_2
    isplitl [HW1]; · iexact HW1
    isplitl [HOw17]; · iexact HOw17
    isplitl [HAR4_1]; · iexact HAR4_1
    iexact HG4
  iapply Hk

/-- The block of shift 1 is there; step 2; a credit. -/
theorem part19 (c : Dev nD) (v2 : BitVec 32) {Q : (Σ' (v593 : BitVec 32) (v594 : BitVec 32) (v595 : BitVec 1), BitVec 1) → sProp 𝕄} :
    iprop(env m ∗ Ow c 17 ∗ cred (tallyAt (recvCell c 0) () N) ∗ atPos ER (recvCell c 0) 0 ∅ 0
        ∗ pc c cc0_scratch2 (colsG 4) (gxC m c) ∗ pc c cc0_scratch3 (halfW (0, 0)) (wbC m c 2) ∗ pc c cc0_scratch3 (halfW (0, 1)) (wbC m c 2) ∗ pc c cc0_scratch4 Finset.univ (acc1 m c)
        ∗ dutyTok ER (credCell (dn c 4)) 0 4)
      ⊢ iprop(((atPos ER (recvCell c 0) 1 ∅ 0 ∗ pc c cc0_scratch2 (colsG 4) (gxC m c) ∗ pc c cc0_scratch2 (colsG 5) (gxC m c) ∗ pc c cc0_scratch3 (halfW (0, 0)) (wbC m c 2)
        ∗ pc c cc0_scratch3 (halfW (0, 1)) (wbC m c 2) ∗ pc c cc0_scratch4 Finset.univ (acc2 m c) ∗ Ow c 18) -∗ ∀ v, Q v)
        -∗ WP c (k0_part19 x0 (Memref.isWhole_whole _) w0 (Memref.isWhole_whole _) o0 (Memref.isWhole_whole _) xM (Memref.isWhole_whole _)
            bM (Memref.isWhole_whole _) gM (Memref.isWhole_whole _) wM (Memref.isWhole_whole _) aM (Memref.isWhole_whole _)
            cc0_scratch5 cc0_scratch6 cc0_scratch7 cc0_scratch8 cc0_scratch9 cc0_scratch10 c v2) Q) := by
  rw [k0_part19_eq_skeleton]
  unfold k0_part19_skel
  simp only [semSignalWord, semWaitWord, Prog.lift, Prog.bind_op, Prog.bind_ret, Prog.pure_eq_ret, wp_deviceId]
  iintro ⟨#He, HOw17, HCR0, HAR0_0, HG4, HR00_2, HR01_2, HA1, HTC4⟩ Hk
  iapply (step_recv m c 17 (by decide) 0) $$ [HOw17 HCR0 HAR0_0]
  · isplitr; · iexact He
    isplitl [HOw17]; · iexact HOw17
    isplitl [HCR0]; · iexact HCR0
    iexact HAR0_0
  iintro ⟨HOw17, HAR0_1, HG5⟩
  iapply (load_g m c 2 4 5 rfl rfl) $$ [HG4 HG5]
  · isplitl [HG4]; · iexact HG4
    iexact HG5
  iintro ⟨HG4, HG5⟩
  iapply (load_w m c 2 0 rfl) $$ [HR00_2 HR01_2]
  · isplitl [HR00_2]; · iexact HR00_2
    iexact HR01_2
  iintro ⟨HR00_2, HR01_2⟩
  iapply (load_a c (acc1 m c)) $$ [HA1]
  · iexact HA1
  iintro HA1
  iapply (load_a c (acc1 m c)) $$ [HA1]
  · iexact HA1
  iintro HA1
  iapply (store_a c (acc1 m c) (acc2 m c)) $$ [HA1]
  · iexact HA1
  iintro HA2
  iapply (step_cred m c 17 4 _ (dev18_eq c) _ rfl rfl) $$ [HOw17 HTC4]
  · isplitr; · iexact He
    isplitl [HOw17]; · iexact HOw17
    iexact HTC4
  iintro HOw18
  unfold WP
  rw [wp_ret]; imodintro
  ispecialize Hk $$ [HAR0_1 HG4 HG5 HR00_2 HR01_2 HA2 HOw18]
  · isplitl [HAR0_1]; · iexact HAR0_1
    isplitl [HG4]; · iexact HG4
    isplitl [HG5]; · iexact HG5
    isplitl [HR00_2]; · iexact HR00_2
    isplitl [HR01_2]; · iexact HR01_2
    isplitl [HA2]; · iexact HA2
    iexact HOw18
  iapply Hk

/-- A credit; half of the weights of step 3 is there. -/
theorem part20 (c : Dev nD) (v2 : BitVec 32) (v593 : BitVec 32) (v594 : BitVec 32) (v595 : BitVec 1) (v596 : BitVec 1) {Q : (Σ' (v623 : BitVec 32) (v624 : BitVec 32), BitVec 1) → sProp 𝕄} :
    iprop(env m ∗ Ow c 18 ∗ dutyTok ER (credCell (dn c 0)) 0 0 ∗ flW m c 3 1 0 7)
      ⊢ iprop(((Ow c 19 ∗ semVal ((c : Thread nD τ), SemLoc.dma (wQ (1, 0))) 0 ∗ pc c cc0_scratch3 (halfW (1, 0)) (wbC m c 3) ∗ pc c main_arg1 (rowsW c 7) (wC m c)) -∗ ∀ v, Q v)
        -∗ WP c (k0_part20 x0 (Memref.isWhole_whole _) w0 (Memref.isWhole_whole _) o0 (Memref.isWhole_whole _) xM (Memref.isWhole_whole _)
            bM (Memref.isWhole_whole _) gM (Memref.isWhole_whole _) wM (Memref.isWhole_whole _) aM (Memref.isWhole_whole _)
            cc0_scratch5 cc0_scratch6 cc0_scratch7 cc0_scratch8 cc0_scratch9 cc0_scratch10 c v2 v593 v594 v595 v596) Q) := by
  rw [k0_part20_eq_skeleton]
  unfold k0_part20_skel
  simp only [semSignalWord, semWaitWord, Prog.lift, Prog.bind_op, Prog.bind_ret, Prog.pure_eq_ret, wp_deviceId]
  iintro ⟨#He, HOw18, HTC0, HF3107⟩ Hk
  iapply (step_cred m c 18 0 _ (dev19_eq c) _ rfl rfl) $$ [HOw18 HTC0]
  · isplitr; · iexact He
    isplitl [HOw18]; · iexact HOw18
    iexact HTC0
  iintro HOw19
  iapply (step_wwait m c 19 (by decide) 3 1 0 7) $$ [HOw19 HF3107]
  · isplitr; · iexact He
    isplitl [HOw19]; · iexact HOw19
    iexact HF3107
  iintro ⟨HOw19, HSW10, HR10_3, HW7⟩
  unfold WP
  rw [wp_ret]; imodintro
  ispecialize Hk $$ [HOw19 HSW10 HR10_3 HW7]
  · isplitl [HOw19]; · iexact HOw19
    isplitl [HSW10]; · iexact HSW10
    isplitl [HR10_3]; · iexact HR10_3
    iexact HW7
  iapply Hk

/-- The other half and the blocks of shifts 7 and 4 are there; the sum of step 3. -/
theorem part21 (c : Dev nD) (v2 : BitVec 32) (v623 : BitVec 32) (v624 : BitVec 32) (v629 : BitVec 1) {Q : (FVec F S256x2048 .f32) → sProp 𝕄} :
    iprop(env m ∗ Ow c 19 ∗ flW m c 3 1 1 4 ∗ cred (tallyAt (recvCell c 6) () N)
        ∗ atPos ER (recvCell c 6) 0 ∅ 0 ∗ cred (tallyAt (recvCell c 3) () N) ∗ atPos ER (recvCell c 3) 0 ∅ 0 ∗ pc c cc0_scratch3 (halfW (1, 0)) (wbC m c 3)
        ∗ pc c cc0_scratch4 Finset.univ (acc2 m c))
      ⊢ iprop(((semVal ((c : Thread nD τ), SemLoc.dma (wQ (1, 1))) 0 ∗ pc c main_arg1 (rowsW c 4) (wC m c) ∗ atPos ER (recvCell c 6) 1 ∅ 0 ∗ Ow c 19
        ∗ atPos ER (recvCell c 3) 1 ∅ 0 ∗ pc c cc0_scratch2 (colsG 6) (gxC m c) ∗ pc c cc0_scratch2 (colsG 7) (gxC m c) ∗ pc c cc0_scratch3 (halfW (1, 0)) (wbC m c 3)
        ∗ pc c cc0_scratch3 (halfW (1, 1)) (wbC m c 3) ∗ pc c cc0_scratch4 Finset.univ (acc2 m c)) -∗ Q (acc3 m c))
        -∗ WP c (k0_part21 x0 (Memref.isWhole_whole _) w0 (Memref.isWhole_whole _) o0 (Memref.isWhole_whole _) xM (Memref.isWhole_whole _)
            bM (Memref.isWhole_whole _) gM (Memref.isWhole_whole _) wM (Memref.isWhole_whole _) aM (Memref.isWhole_whole _)
            cc0_scratch5 cc0_scratch6 cc0_scratch7 cc0_scratch8 cc0_scratch9 cc0_scratch10 c v2 v623 v624 v629) Q) := by
  rw [k0_part21_eq_skeleton]
  unfold k0_part21_skel
  simp only [semSignalWord, semWaitWord, Prog.lift, Prog.bind_op, Prog.bind_ret, Prog.pure_eq_ret, wp_deviceId]
  iintro ⟨#He, HOw19, HF3114, HCR6, HAR6_0, HCR3, HAR3_0, HR10_3, HA2⟩ Hk
  iapply (step_wwait m c 19 (by decide) 3 1 1 4) $$ [HOw19 HF3114]
  · isplitr; · iexact He
    isplitl [HOw19]; · iexact HOw19
    iexact HF3114
  iintro ⟨HOw19, HSW11, HR11_3, HW4⟩
  iapply (step_recv m c 19 (by decide) 6) $$ [HOw19 HCR6 HAR6_0]
  · isplitr; · iexact He
    isplitl [HOw19]; · iexact HOw19
    isplitl [HCR6]; · iexact HCR6
    iexact HAR6_0
  iintro ⟨HOw19, HAR6_1, HG6⟩
  iapply (step_recv m c 19 (by decide) 3) $$ [HOw19 HCR3 HAR3_0]
  · isplitr; · iexact He
    isplitl [HOw19]; · iexact HOw19
    isplitl [HCR3]; · iexact HCR3
    iexact HAR3_0
  iintro ⟨HOw19, HAR3_1, HG7⟩
  iapply (load_g m c 3 6 7 rfl rfl) $$ [HG6 HG7]
  · isplitl [HG6]; · iexact HG6
    iexact HG7
  iintro ⟨HG6, HG7⟩
  iapply (load_w m c 3 1 rfl) $$ [HR10_3 HR11_3]
  · isplitl [HR10_3]; · iexact HR10_3
    iexact HR11_3
  iintro ⟨HR10_3, HR11_3⟩
  iapply (load_a c (acc2 m c)) $$ [HA2]
  · iexact HA2
  iintro HA2
  unfold WP
  rw [wp_ret]; imodintro
  ispecialize Hk $$ [HSW11 HW4 HAR6_1 HOw19 HAR3_1 HG6 HG7 HR10_3 HR11_3 HA2]
  · isplitl [HSW11]; · iexact HSW11
    isplitl [HW4]; · iexact HW4
    isplitl [HAR6_1]; · iexact HAR6_1
    isplitl [HOw19]; · iexact HOw19
    isplitl [HAR3_1]; · iexact HAR3_1
    isplitl [HG6]; · iexact HG6
    isplitl [HG7]; · iexact HG7
    isplitl [HR10_3]; · iexact HR10_3
    isplitl [HR11_3]; · iexact HR11_3
    iexact HA2
  unfold acc3
  iexact Hk

/-- The result is stored and its transfer out starts; the last two credits. -/
theorem part22 (c : Dev nD) (fo : main_v1.ty.Contents (Elt F)) (v2 : BitVec 32) {Q : (PUnit) → sProp 𝕄} :
    iprop(env m ∗ pc c cc0_scratch4 Finset.univ (acc2 m c) ∗ pc c main_v1 Finset.univ fo ∗ semVal ((c : Thread nD τ), SemLoc.dma oQ) 0
        ∗ Ow c 19 ∗ dutyTok ER (credCell (dn c 6)) 0 6 ∗ dutyTok ER (credCell (dn c 3)) 0 3)
      ⊢ iprop(((flO m c ∗ Ow c 21) -∗ Q ⟨⟩)
        -∗ WP c (k0_part22 x0 (Memref.isWhole_whole _) w0 (Memref.isWhole_whole _) o0 (Memref.isWhole_whole _) xM (Memref.isWhole_whole _)
            bM (Memref.isWhole_whole _) gM (Memref.isWhole_whole _) wM (Memref.isWhole_whole _) aM (Memref.isWhole_whole _)
            cc0_scratch5 cc0_scratch6 cc0_scratch7 cc0_scratch8 cc0_scratch9 cc0_scratch10 c v2 (acc3 m c)) Q) := by
  rw [k0_part22_eq_skeleton]
  unfold k0_part22_skel
  simp only [semSignalWord, semWaitWord, Prog.lift, Prog.bind_op, Prog.bind_ret, Prog.pure_eq_ret, wp_deviceId]
  iintro ⟨#He, HA2, HO, HSO, HOw19, HTC6, HTC3⟩ Hk
  iapply (load_a c (acc2 m c)) $$ [HA2]
  · iexact HA2
  iintro HA2
  iapply (store_a c (acc2 m c) (outC m c)) $$ [HA2]
  · iexact HA2
  iintro HAz
  iapply (step_o m c fo) $$ [HAz HO HSO]
  · isplitl [HAz]; · iexact HAz
    isplitl [HO]; · iexact HO
    iexact HSO
  iintro HFO
  iapply (step_cred m c 19 6 _ (dev20_eq c) _ rfl rfl) $$ [HOw19 HTC6]
  · isplitr; · iexact He
    isplitl [HOw19]; · iexact HOw19
    iexact HTC6
  iintro HOw20
  iapply (step_cred m c 20 3 _ (dev21_eq c) _ rfl rfl) $$ [HOw20 HTC3]
  · isplitr; · iexact He
    isplitl [HOw20]; · iexact HOw20
    iexact HTC3
  iintro HOw21
  unfold WP
  rw [wp_ret]; imodintro
  ispecialize Hk $$ [HFO HOw21]
  · isplitl [HFO]; · iexact HFO
    iexact HOw21
  iapply Hk

/-- Five transfers have left. -/
theorem part23 (c : Dev nD) {Q : (PUnit) → sProp 𝕄} :
    iprop(env m ∗ Ow c 21 ∗ cred (tallyAt (sendCell c 1) () N) ∗ atPos ER (sendCell c 1) 0 ∅ 0
        ∗ cred (tallyAt (sendCell c 5) () N) ∗ atPos ER (sendCell c 5) 0 ∅ 0 ∗ cred (tallyAt (sendCell c 2) () N) ∗ atPos ER (sendCell c 2) 0 ∅ 0
        ∗ cred (tallyAt (sendCell c 4) () N) ∗ atPos ER (sendCell c 4) 0 ∅ 0 ∗ cred (tallyAt (sendCell c 0) () N) ∗ atPos ER (sendCell c 0) 0 ∅ 0)
      ⊢ iprop(((atPos ER (sendCell c 1) 1 ∅ 0 ∗ pc c cc0_scratch1 (rowsB c 2) (xbC m c) ∗ atPos ER (sendCell c 5) 1 ∅ 0 ∗ pc c cc0_scratch1 (rowsB c 6) (xbC m c)
        ∗ atPos ER (sendCell c 2) 1 ∅ 0 ∗ pc c cc0_scratch1 (rowsB c 3) (xbC m c) ∗ atPos ER (sendCell c 4) 1 ∅ 0 ∗ pc c cc0_scratch1 (rowsB c 5) (xbC m c)
        ∗ Ow c 21 ∗ atPos ER (sendCell c 0) 1 ∅ 0 ∗ pc c cc0_scratch1 (rowsB c 1) (xbC m c)) -∗ Q ⟨⟩)
        -∗ WP c (k0_part23 x0 (Memref.isWhole_whole _) w0 (Memref.isWhole_whole _) o0 (Memref.isWhole_whole _) xM (Memref.isWhole_whole _)
            bM (Memref.isWhole_whole _) gM (Memref.isWhole_whole _) wM (Memref.isWhole_whole _) aM (Memref.isWhole_whole _)
            cc0_scratch5 cc0_scratch6 cc0_scratch7 cc0_scratch8 cc0_scratch9 cc0_scratch10 c) Q) := by
  rw [k0_part23_eq_skeleton]
  unfold k0_part23_skel
  simp only [semSignalWord, semWaitWord, Prog.lift, Prog.bind_op, Prog.bind_ret, Prog.pure_eq_ret, wp_deviceId]
  iintro ⟨#He, HOw21, HCS1, HAS1_0, HCS5, HAS5_0, HCS2, HAS2_0, HCS4, HAS4_0, HCS0, HAS0_0⟩ Hk
  iapply (step_sendwait m c 1) $$ [HOw21 HCS1 HAS1_0]
  · isplitr; · iexact He
    isplitl [HOw21]; · iexact HOw21
    isplitl [HCS1]; · iexact HCS1
    iexact HAS1_0
  iintro ⟨HOw21, HAS1_1, HB2⟩
  iapply (step_sendwait m c 5) $$ [HOw21 HCS5 HAS5_0]
  · isplitr; · iexact He
    isplitl [HOw21]; · iexact HOw21
    isplitl [HCS5]; · iexact HCS5
    iexact HAS5_0
  iintro ⟨HOw21, HAS5_1, HB6⟩
  iapply (step_sendwait m c 2) $$ [HOw21 HCS2 HAS2_0]
  · isplitr; · iexact He
    isplitl [HOw21]; · iexact HOw21
    isplitl [HCS2]; · iexact HCS2
    iexact HAS2_0
  iintro ⟨HOw21, HAS2_1, HB3⟩
  iapply (step_sendwait m c 4) $$ [HOw21 HCS4 HAS4_0]
  · isplitr; · iexact He
    isplitl [HOw21]; · iexact HOw21
    isplitl [HCS4]; · iexact HCS4
    iexact HAS4_0
  iintro ⟨HOw21, HAS4_1, HB5⟩
  iapply (step_sendwait m c 0) $$ [HOw21 HCS0 HAS0_0]
  · isplitr; · iexact He
    isplitl [HOw21]; · iexact HOw21
    isplitl [HCS0]; · iexact HCS0
    iexact HAS0_0
  iintro ⟨HOw21, HAS0_1, HB1⟩
  unfold WP
  rw [wp_ret]; imodintro
  ispecialize Hk $$ [HAS1_1 HB2 HAS5_1 HB6 HAS2_1 HB3 HAS4_1 HB5 HOw21 HAS0_1 HB1]
  · isplitl [HAS1_1]; · iexact HAS1_1
    isplitl [HB2]; · iexact HB2
    isplitl [HAS5_1]; · iexact HAS5_1
    isplitl [HB6]; · iexact HB6
    isplitl [HAS2_1]; · iexact HAS2_1
    isplitl [HB3]; · iexact HB3
    isplitl [HAS4_1]; · iexact HAS4_1
    isplitl [HB5]; · iexact HB5
    isplitl [HOw21]; · iexact HOw21
    isplitl [HAS0_1]; · iexact HAS0_1
    iexact HB1
  iapply Hk

end Cert.Gather
end
-- ==== Proof.Body.lean ====
/-
# The body

From what a device holds when its body starts: what it holds when the body ends.
-/
module

public import proofs.«01_k».proof.Proof.Parts

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3 eq_ix2 eq_ix3)

variable {F : FTy → Type} [FloatOps F]

local notation "𝕄" => MT nD τ sig Unit (Elt F) ℕ UU ℕ

variable (m : (ℓ : Loc nD τ sig) → Buf (Elt F) ℓ)

theorem WP_bind (c : Dev nD) {α β : Type} (p : Prog (TpuEff nD τ sig (Elt F) Λ₀ .tc) α) (k : α → Prog (TpuEff nD τ sig (Elt F) Λ₀ .tc) β)
    (Q : β → sProp 𝕄) : WP c (p >>= k) Q = WP c p fun a => WP c (k a) Q := by
  unfold WP; rw [wp_bind]

set_option maxHeartbeats 4000000 in
/-- The body, from the pieces the transfers move. -/
theorem sound_body (c : Dev nD) (f0 : cc0_scratch0.ty.Contents (Elt F)) (f1 : cc0_scratch1.ty.Contents (Elt F)) (f2 : cc0_scratch2.ty.Contents (Elt F)) (f3 : cc0_scratch3.ty.Contents (Elt F)) (f4 : cc0_scratch4.ty.Contents (Elt F)) (fo : main_v1.ty.Contents (Elt F)) {Q : PUnit → sProp 𝕄} :
    iprop(env m ∗ pc c main_arg0 Finset.univ (xC m c) ∗ pc c cc0_scratch0 Finset.univ f0 ∗ semVal ((c : Thread nD τ), SemLoc.dma xQ) 0
        ∗ pc c main_arg1 (rowsW c 0) (wC m c) ∗ pc c cc0_scratch3 (halfW (0, 0)) f3 ∗ semVal ((c : Thread nD τ), SemLoc.dma (wQ (0, 0))) 0 ∗ pc c main_arg1 (rowsW c 2) (wC m c)
        ∗ pc c cc0_scratch3 (halfW (0, 1)) f3 ∗ semVal ((c : Thread nD τ), SemLoc.dma (wQ (0, 1))) 0 ∗ Ow c 0 ∗ dutyTok ER (barCell (up c 0)) 0 (rev 0)
        ∗ pc c cc0_scratch2 (colsG (slot (rev 0))) f2 ∗ dutyTok ER (barCell (up c 1)) 0 (rev 1) ∗ pc c cc0_scratch2 (colsG (slot (rev 1))) f2 ∗ dutyTok ER (barCell (up c 2)) 0 (rev 2)
        ∗ pc c cc0_scratch2 (colsG (slot (rev 2))) f2 ∗ dutyTok ER (barCell (up c 3)) 0 (rev 3) ∗ pc c cc0_scratch2 (colsG (slot (rev 3))) f2 ∗ dutyTok ER (barCell (up c 4)) 0 (rev 4)
        ∗ pc c cc0_scratch2 (colsG (slot (rev 4))) f2 ∗ dutyTok ER (barCell (up c 5)) 0 (rev 5) ∗ pc c cc0_scratch2 (colsG (slot (rev 5))) f2 ∗ dutyTok ER (barCell (up c 6)) 0 (rev 6)
        ∗ pc c cc0_scratch2 (colsG (slot (rev 6))) f2 ∗ pc c cc0_scratch1 Finset.univ f1 ∗ cred (tallyAt (barCell c) () 7) ∗ atPos ER (barCell c) 0 ∅ 0
        ∗ dutyTok ER (sendCell c 1) 0 0 ∗ dutyTok ER (recvCell (up c 1) 1) 0 0 ∗ dutyTok ER (sendCell c 5) 0 0 ∗ dutyTok ER (recvCell (up c 5) 5) 0 0
        ∗ dutyTok ER (sendCell c 2) 0 0 ∗ dutyTok ER (recvCell (up c 2) 2) 0 0 ∗ dutyTok ER (sendCell c 4) 0 0 ∗ dutyTok ER (recvCell (up c 4) 4) 0 0
        ∗ dutyTok ER (sendCell c 0) 0 0 ∗ dutyTok ER (recvCell (up c 0) 0) 0 0 ∗ dutyTok ER (sendCell c 6) 0 0 ∗ dutyTok ER (recvCell (up c 6) 6) 0 0
        ∗ dutyTok ER (sendCell c 3) 0 0 ∗ dutyTok ER (recvCell (up c 3) 3) 0 0 ∗ pc c cc0_scratch2 (colsG 0) f2 ∗ pc c main_arg1 (rowsW c 6) (wC m c)
        ∗ pc c cc0_scratch3 (halfW (1, 0)) f3 ∗ semVal ((c : Thread nD τ), SemLoc.dma (wQ (1, 0))) 0 ∗ pc c main_arg1 (rowsW c 3) (wC m c) ∗ pc c cc0_scratch3 (halfW (1, 1)) f3
        ∗ semVal ((c : Thread nD τ), SemLoc.dma (wQ (1, 1))) 0 ∗ cred (tallyAt (recvCell c 1) () N) ∗ atPos ER (recvCell c 1) 0 ∅ 0 ∗ pc c cc0_scratch4 Finset.univ f4
        ∗ dutyTok ER (credCell (dn c 1)) 0 1 ∗ pc c main_arg1 (rowsW c 5) (wC m c) ∗ pc c main_arg1 (rowsW c 1) (wC m c) ∗ cred (tallyAt (recvCell c 5) () N)
        ∗ atPos ER (recvCell c 5) 0 ∅ 0 ∗ cred (tallyAt (recvCell c 2) () N) ∗ atPos ER (recvCell c 2) 0 ∅ 0 ∗ dutyTok ER (credCell (dn c 5)) 0 5
        ∗ dutyTok ER (credCell (dn c 2)) 0 2 ∗ pc c main_arg1 (rowsW c 7) (wC m c) ∗ pc c main_arg1 (rowsW c 4) (wC m c) ∗ cred (tallyAt (recvCell c 4) () N)
        ∗ atPos ER (recvCell c 4) 0 ∅ 0 ∗ cred (tallyAt (recvCell c 0) () N) ∗ atPos ER (recvCell c 0) 0 ∅ 0 ∗ dutyTok ER (credCell (dn c 4)) 0 4
        ∗ dutyTok ER (credCell (dn c 0)) 0 0 ∗ cred (tallyAt (recvCell c 6) () N) ∗ atPos ER (recvCell c 6) 0 ∅ 0 ∗ cred (tallyAt (recvCell c 3) () N)
        ∗ atPos ER (recvCell c 3) 0 ∅ 0 ∗ pc c main_v1 Finset.univ fo ∗ semVal ((c : Thread nD τ), SemLoc.dma oQ) 0 ∗ dutyTok ER (credCell (dn c 6)) 0 6
        ∗ dutyTok ER (credCell (dn c 3)) 0 3 ∗ atPos ER (sendCell c 1) 0 ∅ 0 ∗ atPos ER (sendCell c 5) 0 ∅ 0 ∗ atPos ER (sendCell c 2) 0 ∅ 0
        ∗ atPos ER (sendCell c 4) 0 ∅ 0 ∗ atPos ER (sendCell c 0) 0 ∅ 0 ∗ atPos ER (sendCell c 6) 0 ∅ 0 ∗ atPos ER (sendCell c 3) 0 ∅ 0
        ∗ cred (tallyAt (credCell c) () 7) ∗ atPos ER (credCell c) 0 ∅ 0)
      ⊢ iprop(((semVal ((c : Thread nD τ), SemLoc.dma xQ) 0 ∗ pc c main_arg0 Finset.univ (xC m c) ∗ pc c cc0_scratch0 Finset.univ (xC m c) ∗ atPos ER (barCell c) 1 ∅ 0
        ∗ pc c cc0_scratch1 (rowsB c 0) (xbC m c) ∗ pc c main_arg1 (rowsW c 0) (wC m c) ∗ pc c main_arg1 (rowsW c 2) (wC m c) ∗ atPos ER (recvCell c 1) 1 ∅ 0
        ∗ pc c cc0_scratch2 (colsG 0) (gxC m c) ∗ pc c cc0_scratch2 (colsG 1) (gxC m c) ∗ pc c main_arg1 (rowsW c 6) (wC m c) ∗ pc c main_arg1 (rowsW c 3) (wC m c)
        ∗ atPos ER (recvCell c 5) 1 ∅ 0 ∗ atPos ER (recvCell c 2) 1 ∅ 0 ∗ pc c cc0_scratch2 (colsG 2) (gxC m c) ∗ pc c cc0_scratch2 (colsG 3) (gxC m c)
        ∗ semVal ((c : Thread nD τ), SemLoc.dma (wQ (0, 0))) 0 ∗ pc c main_arg1 (rowsW c 5) (wC m c) ∗ semVal ((c : Thread nD τ), SemLoc.dma (wQ (0, 1))) 0 ∗ pc c main_arg1 (rowsW c 1) (wC m c)
        ∗ atPos ER (recvCell c 4) 1 ∅ 0 ∗ atPos ER (recvCell c 0) 1 ∅ 0 ∗ pc c cc0_scratch2 (colsG 4) (gxC m c) ∗ pc c cc0_scratch2 (colsG 5) (gxC m c)
        ∗ pc c cc0_scratch3 (halfW (0, 0)) (wbC m c 2) ∗ pc c cc0_scratch3 (halfW (0, 1)) (wbC m c 2) ∗ semVal ((c : Thread nD τ), SemLoc.dma (wQ (1, 0))) 0 ∗ pc c main_arg1 (rowsW c 7) (wC m c)
        ∗ semVal ((c : Thread nD τ), SemLoc.dma (wQ (1, 1))) 0 ∗ pc c main_arg1 (rowsW c 4) (wC m c) ∗ atPos ER (recvCell c 6) 1 ∅ 0 ∗ atPos ER (recvCell c 3) 1 ∅ 0
        ∗ pc c cc0_scratch2 (colsG 6) (gxC m c) ∗ pc c cc0_scratch2 (colsG 7) (gxC m c) ∗ pc c cc0_scratch3 (halfW (1, 0)) (wbC m c 3) ∗ pc c cc0_scratch3 (halfW (1, 1)) (wbC m c 3)
        ∗ atPos ER (sendCell c 1) 1 ∅ 0 ∗ pc c cc0_scratch1 (rowsB c 2) (xbC m c) ∗ atPos ER (sendCell c 5) 1 ∅ 0 ∗ pc c cc0_scratch1 (rowsB c 6) (xbC m c)
        ∗ atPos ER (sendCell c 2) 1 ∅ 0 ∗ pc c cc0_scratch1 (rowsB c 3) (xbC m c) ∗ atPos ER (sendCell c 4) 1 ∅ 0 ∗ pc c cc0_scratch1 (rowsB c 5) (xbC m c)
        ∗ atPos ER (sendCell c 0) 1 ∅ 0 ∗ pc c cc0_scratch1 (rowsB c 1) (xbC m c) ∗ atPos ER (sendCell c 6) 1 ∅ 0 ∗ pc c cc0_scratch1 (rowsB c 7) (xbC m c)
        ∗ atPos ER (sendCell c 3) 1 ∅ 0 ∗ pc c cc0_scratch1 (rowsB c 4) (xbC m c) ∗ semVal ((c : Thread nD τ), SemLoc.dma oQ) 0 ∗ pc c main_v1 Finset.univ (outC m c)
        ∗ pc c cc0_scratch4 Finset.univ (outC m c) ∗ Ow c 21 ∗ atPos ER (credCell c) 1 ∅ 0) -∗ Q ⟨⟩)
        -∗ WP c (cc0_body x0 (Memref.isWhole_whole _) w0 (Memref.isWhole_whole _) o0 (Memref.isWhole_whole _) xM (Memref.isWhole_whole _)
            bM (Memref.isWhole_whole _) gM (Memref.isWhole_whole _) wM (Memref.isWhole_whole _) aM (Memref.isWhole_whole _)
            cc0_scratch5 cc0_scratch6 cc0_scratch7 cc0_scratch8 cc0_scratch9 cc0_scratch10) Q) := by
  rw [cc0_body_eq_skeleton]
  unfold cc0_body_skel
  iintro ⟨#He, HX, HXS, HSX, HW0, HR00, HSW00, HW2, HR01, HSW01, HOw0, HTB0, HGP0, HTB1, HGP1, HTB2, HGP2, HTB3, HGP3, HTB4, HGP4, HTB5, HGP5, HTB6, HGP6, HB, HCB, HAB_0, HTS1, HTR1, HTS5, HTR5, HTS2, HTR2, HTS4, HTR4, HTS0, HTR0, HTS6, HTR6, HTS3, HTR3, HGz, HW6, HR10, HSW10, HW3, HR11, HSW11, HCR1, HAR1_0, HA, HTC1, HW5, HW1, HCR5, HAR5_0, HCR2, HAR2_0, HTC5, HTC2, HW7, HW4, HCR4, HAR4_0, HCR0, HAR0_0, HTC4, HTC0, HCR6, HAR6_0, HCR3, HAR3_0, HO, HSO, HTC6, HTC3, HAS1_0, HAS5_0, HAS2_0, HAS4_0, HAS0_0, HAS6_0, HAS3_0, HCC, HAC_0⟩ Hk
  rw [WP_bind]
  iapply (part1 m c f0 f3 ) $$ [HX HXS HSX HW0 HR00 HSW00]
  · isplitl [HX]; · iexact HX
    isplitl [HXS]; · iexact HXS
    isplitl [HSX]; · iexact HSX
    isplitl [HW0]; · iexact HW0
    isplitl [HR00]; · iexact HR00
    iexact HSW00
  iintro ⟨HFX, HF0000⟩ %v1
  try dsimp only
  rw [WP_bind]
  iapply (part2 m c f2 f3 _) $$ [HW2 HR01 HSW01 HOw0 HTB0 HGP0 HTB1 HGP1]
  · isplitr; · iexact He
    isplitl [HW2]; · iexact HW2
    isplitl [HR01]; · iexact HR01
    isplitl [HSW01]; · iexact HSW01
    isplitl [HOw0]; · iexact HOw0
    isplitl [HTB0]; · iexact HTB0
    isplitl [HGP0]; · iexact HGP0
    isplitl [HTB1]; · iexact HTB1
    iexact HGP1
  iintro ⟨HF0012, HOw2⟩
  try dsimp only
  rw [WP_bind]
  iapply (part3 m c f2 _) $$ [HOw2 HTB2 HGP2 HTB3 HGP3]
  · isplitr; · iexact He
    isplitl [HOw2]; · iexact HOw2
    isplitl [HTB2]; · iexact HTB2
    isplitl [HGP2]; · iexact HGP2
    isplitl [HTB3]; · iexact HTB3
    iexact HGP3
  iintro HOw4 %v3
  obtain ⟨_, _, _, _⟩ := v3
  try dsimp only
  rw [WP_bind]
  iapply (part4 m c f2 _ _ _ _ _) $$ [HOw4 HTB4 HGP4 HTB5 HGP5 HTB6 HGP6]
  · isplitr; · iexact He
    isplitl [HOw4]; · iexact HOw4
    isplitl [HTB4]; · iexact HTB4
    isplitl [HGP4]; · iexact HGP4
    isplitl [HTB5]; · iexact HTB5
    isplitl [HGP5]; · iexact HGP5
    isplitl [HTB6]; · iexact HTB6
    iexact HGP6
  iintro HOw7
  try dsimp only
  rw [WP_bind]
  iapply (part5 m c f1 _) $$ [HOw7 HFX HB HCB HAB_0 HTS1 HTR1]
  · isplitr; · iexact He
    isplitl [HOw7]; · iexact HOw7
    isplitl [HFX]; · iexact HFX
    isplitl [HB]; · iexact HB
    isplitl [HCB]; · iexact HCB
    isplitl [HAB_0]; · iexact HAB_0
    isplitl [HTS1]; · iexact HTS1
    iexact HTR1
  iintro ⟨HSX, HX, HXL, HB0, HB1, HB3, HB4, HB5, HB6, HB7, HAB_1, HH0, HH2, HH3, HH4, HH5, HH6, HOw8, HCS1⟩ %v5
  obtain ⟨_, _, _⟩ := v5
  try dsimp only
  rw [WP_bind]
  iapply (part6 m c  _ _ _ _) $$ [HOw8 HB6 HH5 HTS5 HTR5]
  · isplitr; · iexact He
    isplitl [HOw8]; · iexact HOw8
    isplitl [HB6]; · iexact HB6
    isplitl [HH5]; · iexact HH5
    isplitl [HTS5]; · iexact HTS5
    iexact HTR5
  iintro ⟨HOw9, HCS5⟩
  try dsimp only
  rw [WP_bind]
  iapply (part7 m c  _) $$ [HOw9 HB3 HH2 HTS2 HTR2 HB5 HH4 HTS4 HTR4]
  · isplitr; · iexact He
    isplitl [HOw9]; · iexact HOw9
    isplitl [HB3]; · iexact HB3
    isplitl [HH2]; · iexact HH2
    isplitl [HTS2]; · iexact HTS2
    isplitl [HTR2]; · iexact HTR2
    isplitl [HB5]; · iexact HB5
    isplitl [HH4]; · iexact HH4
    isplitl [HTS4]; · iexact HTS4
    iexact HTR4
  iintro ⟨HCS2, HOw11, HCS4⟩ %v7
  try dsimp only
  rw [WP_bind]
  iapply (part8 m c  _ _) $$ [HOw11 HB1 HH0 HTS0 HTR0 HB7 HH6 HTS6 HTR6]
  · isplitr; · iexact He
    isplitl [HOw11]; · iexact HOw11
    isplitl [HB1]; · iexact HB1
    isplitl [HH0]; · iexact HH0
    isplitl [HTS0]; · iexact HTS0
    isplitl [HTR0]; · iexact HTR0
    isplitl [HB7]; · iexact HB7
    isplitl [HH6]; · iexact HH6
    isplitl [HTS6]; · iexact HTS6
    iexact HTR6
  iintro ⟨HCS0, HOw13, HCS6⟩ %v8
  obtain ⟨_, _, _⟩ := v8
  try dsimp only
  rw [WP_bind]
  iapply (part9 m c f2 _ _ _ _) $$ [HOw13 HB4 HH3 HTS3 HTR3 HB0 HGz]
  · isplitr; · iexact He
    isplitl [HOw13]; · iexact HOw13
    isplitl [HB4]; · iexact HB4
    isplitl [HH3]; · iexact HH3
    isplitl [HTS3]; · iexact HTS3
    isplitl [HTR3]; · iexact HTR3
    isplitl [HB0]; · iexact HB0
    iexact HGz
  iintro ⟨HOw14, HCS3, HB0, HG0⟩
  try dsimp only
  rw [WP_bind]
  iapply (part10 m c f3 _) $$ [HW6 HR10 HSW10 HW3 HR11 HSW11]
  · isplitl [HW6]; · iexact HW6
    isplitl [HR10]; · iexact HR10
    isplitl [HSW10]; · iexact HSW10
    isplitl [HW3]; · iexact HW3
    isplitl [HR11]; · iexact HR11
    iexact HSW11
  iintro ⟨HF1106, HF1113⟩ %v10
  obtain ⟨_, _⟩ := v10
  try dsimp only
  rw [WP_bind]
  iapply (part11 m c  _ _ _) $$ [HOw14 HF0000 HF0012 HCR1 HAR1_0]
  · isplitr; · iexact He
    isplitl [HOw14]; · iexact HOw14
    isplitl [HF0000]; · iexact HF0000
    isplitl [HF0012]; · iexact HF0012
    isplitl [HCR1]; · iexact HCR1
    iexact HAR1_0
  iintro ⟨HSW00, HR00_0, HW0, HSW01, HR01_0, HW2, HOw14, HAR1_1, HG1⟩
  try dsimp only
  rw [WP_bind]
  iapply (part12 m c f4 _) $$ [HG0 HG1 HR00_0 HR01_0 HA HOw14 HTC1]
  · isplitr; · iexact He
    isplitl [HG0]; · iexact HG0
    isplitl [HG1]; · iexact HG1
    isplitl [HR00_0]; · iexact HR00_0
    isplitl [HR01_0]; · iexact HR01_0
    isplitl [HA]; · iexact HA
    isplitl [HOw14]; · iexact HOw14
    iexact HTC1
  iintro ⟨HG0, HG1, HR00_0, HR01_0, HA0, HOw15⟩
  try dsimp only
  rw [WP_bind]
  iapply (part13 m c  _) $$ [HW5 HR00_0 HSW00 HW1 HR01_0 HSW01]
  · isplitl [HW5]; · iexact HW5
    isplitl [HR00_0]; · iexact HR00_0
    isplitl [HSW00]; · iexact HSW00
    isplitl [HW1]; · iexact HW1
    isplitl [HR01_0]; · iexact HR01_0
    iexact HSW01
  iintro ⟨HF2005, HF2011⟩ %v13
  obtain ⟨_, _, _⟩ := v13
  try dsimp only
  rw [WP_bind]
  iapply (part14 m c  _ _ _ _) $$ [HOw15 HF1106 HF1113]
  · isplitr; · iexact He
    isplitl [HOw15]; · iexact HOw15
    isplitl [HF1106]; · iexact HF1106
    iexact HF1113
  iintro ⟨HSW10, HR10_1, HW6, HOw15, HSW11, HR11_1, HW3⟩
  try dsimp only
  rw [WP_bind]
  iapply (part15 m c  _) $$ [HOw15 HCR5 HAR5_0 HCR2 HAR2_0 HR10_1 HR11_1 HA0]
  · isplitr; · iexact He
    isplitl [HOw15]; · iexact HOw15
    isplitl [HCR5]; · iexact HCR5
    isplitl [HAR5_0]; · iexact HAR5_0
    isplitl [HCR2]; · iexact HCR2
    isplitl [HAR2_0]; · iexact HAR2_0
    isplitl [HR10_1]; · iexact HR10_1
    isplitl [HR11_1]; · iexact HR11_1
    iexact HA0
  iintro ⟨HAR5_1, HOw15, HAR2_1, HG2, HG3, HR10_1, HR11_1, HA1⟩ %v15
  obtain ⟨_, _⟩ := v15
  try dsimp only
  rw [WP_bind]
  iapply (part16 m c  _ _ _) $$ [HOw15 HTC5 HTC2 HW7 HR10_1 HSW10]
  · isplitr; · iexact He
    isplitl [HOw15]; · iexact HOw15
    isplitl [HTC5]; · iexact HTC5
    isplitl [HTC2]; · iexact HTC2
    isplitl [HW7]; · iexact HW7
    isplitl [HR10_1]; · iexact HR10_1
    iexact HSW10
  iintro ⟨HOw17, HF3107⟩ %v16
  try dsimp only
  rw [WP_bind]
  iapply (part17 m c  _ _) $$ [HW4 HR11_1 HSW11]
  · isplitl [HW4]; · iexact HW4
    isplitl [HR11_1]; · iexact HR11_1
    iexact HSW11
  iintro HF3114
  try dsimp only
  rw [WP_bind]
  iapply (part18 m c  _) $$ [HOw17 HF2005 HF2011 HCR4 HAR4_0]
  · isplitr; · iexact He
    isplitl [HOw17]; · iexact HOw17
    isplitl [HF2005]; · iexact HF2005
    isplitl [HF2011]; · iexact HF2011
    isplitl [HCR4]; · iexact HCR4
    iexact HAR4_0
  iintro ⟨HSW00, HR00_2, HW5, HSW01, HR01_2, HW1, HOw17, HAR4_1, HG4⟩
  try dsimp only
  rw [WP_bind]
  iapply (part19 m c  _) $$ [HOw17 HCR0 HAR0_0 HG4 HR00_2 HR01_2 HA1 HTC4]
  · isplitr; · iexact He
    isplitl [HOw17]; · iexact HOw17
    isplitl [HCR0]; · iexact HCR0
    isplitl [HAR0_0]; · iexact HAR0_0
    isplitl [HG4]; · iexact HG4
    isplitl [HR00_2]; · iexact HR00_2
    isplitl [HR01_2]; · iexact HR01_2
    isplitl [HA1]; · iexact HA1
    iexact HTC4
  iintro ⟨HAR0_1, HG4, HG5, HR00_2, HR01_2, HA2, HOw18⟩ %v19
  obtain ⟨_, _, _, _⟩ := v19
  try dsimp only
  rw [WP_bind]
  iapply (part20 m c  _ _ _ _ _) $$ [HOw18 HTC0 HF3107]
  · isplitr; · iexact He
    isplitl [HOw18]; · iexact HOw18
    isplitl [HTC0]; · iexact HTC0
    iexact HF3107
  iintro ⟨HOw19, HSW10, HR10_3, HW7⟩ %v20
  obtain ⟨_, _, _⟩ := v20
  try dsimp only
  rw [WP_bind]
  iapply (part21 m c  _ _ _ _) $$ [HOw19 HF3114 HCR6 HAR6_0 HCR3 HAR3_0 HR10_3 HA2]
  · isplitr; · iexact He
    isplitl [HOw19]; · iexact HOw19
    isplitl [HF3114]; · iexact HF3114
    isplitl [HCR6]; · iexact HCR6
    isplitl [HAR6_0]; · iexact HAR6_0
    isplitl [HCR3]; · iexact HCR3
    isplitl [HAR3_0]; · iexact HAR3_0
    isplitl [HR10_3]; · iexact HR10_3
    iexact HA2
  iintro ⟨HSW11, HW4, HAR6_1, HOw19, HAR3_1, HG6, HG7, HR10_3, HR11_3, HA2⟩
  try dsimp only
  rw [WP_bind]
  iapply (part22 m c fo _) $$ [HA2 HO HSO HOw19 HTC6 HTC3]
  · isplitr; · iexact He
    isplitl [HA2]; · iexact HA2
    isplitl [HO]; · iexact HO
    isplitl [HSO]; · iexact HSO
    isplitl [HOw19]; · iexact HOw19
    isplitl [HTC6]; · iexact HTC6
    iexact HTC3
  iintro ⟨HFO, HOw21⟩
  try dsimp only
  rw [WP_bind]
  iapply (part23 m c  ) $$ [HOw21 HCS1 HAS1_0 HCS5 HAS5_0 HCS2 HAS2_0 HCS4 HAS4_0 HCS0 HAS0_0]
  · isplitr; · iexact He
    isplitl [HOw21]; · iexact HOw21
    isplitl [HCS1]; · iexact HCS1
    isplitl [HAS1_0]; · iexact HAS1_0
    isplitl [HCS5]; · iexact HCS5
    isplitl [HAS5_0]; · iexact HAS5_0
    isplitl [HCS2]; · iexact HCS2
    isplitl [HAS2_0]; · iexact HAS2_0
    isplitl [HCS4]; · iexact HCS4
    isplitl [HAS4_0]; · iexact HAS4_0
    isplitl [HCS0]; · iexact HCS0
    iexact HAS0_0
  iintro ⟨HAS1_1, HB2, HAS5_1, HB6, HAS2_1, HB3, HAS4_1, HB5, HOw21, HAS0_1, HB1⟩
  try dsimp only
  simp only [semWaitWord, Prog.lift, Prog.bind_op, Prog.bind_ret, Prog.pure_eq_ret]
  iapply (step_sendwait m c 6) $$ [HOw21 HCS6 HAS6_0]
  · isplitr; · iexact He
    isplitl [HOw21]; · iexact HOw21
    isplitl [HCS6]; · iexact HCS6
    iexact HAS6_0
  iintro ⟨HOw21, HAS6_1, HB7⟩
  iapply (step_sendwait m c 3) $$ [HOw21 HCS3 HAS3_0]
  · isplitr; · iexact He
    isplitl [HOw21]; · iexact HOw21
    isplitl [HCS3]; · iexact HCS3
    iexact HAS3_0
  iintro ⟨HOw21, HAS3_1, HB4⟩
  iapply (step_owait m c) $$ [HOw21 HFO]
  · isplitr; · iexact He
    isplitl [HOw21]; · iexact HOw21
    iexact HFO
  iintro ⟨HOw21, HSO, HOL, HAz⟩
  iapply (step_credwait m c _ rfl) $$ [HOw21 HCC HAC_0]
  · isplitr; · iexact He
    isplitl [HOw21]; · iexact HOw21
    isplitl [HCC]; · iexact HCC
    iexact HAC_0
  iintro ⟨HOw21, HAC_1⟩
  unfold WP
  rw [wp_ret]; imodintro
  ispecialize Hk $$ [HSX HX HXL HAB_1 HB0 HW0 HW2 HAR1_1 HG0 HG1 HW6 HW3 HAR5_1 HAR2_1 HG2 HG3 HSW00 HW5 HSW01 HW1 HAR4_1 HAR0_1 HG4 HG5 HR00_2 HR01_2 HSW10 HW7 HSW11 HW4 HAR6_1 HAR3_1 HG6 HG7 HR10_3 HR11_3 HAS1_1 HB2 HAS5_1 HB6 HAS2_1 HB3 HAS4_1 HB5 HAS0_1 HB1 HAS6_1 HB7 HAS3_1 HB4 HSO HOL HAz HOw21 HAC_1]
  · isplitl [HSX]; · iexact HSX
    isplitl [HX]; · iexact HX
    isplitl [HXL]; · iexact HXL
    isplitl [HAB_1]; · iexact HAB_1
    isplitl [HB0]; · iexact HB0
    isplitl [HW0]; · iexact HW0
    isplitl [HW2]; · iexact HW2
    isplitl [HAR1_1]; · iexact HAR1_1
    isplitl [HG0]; · iexact HG0
    isplitl [HG1]; · iexact HG1
    isplitl [HW6]; · iexact HW6
    isplitl [HW3]; · iexact HW3
    isplitl [HAR5_1]; · iexact HAR5_1
    isplitl [HAR2_1]; · iexact HAR2_1
    isplitl [HG2]; · iexact HG2
    isplitl [HG3]; · iexact HG3
    isplitl [HSW00]; · iexact HSW00
    isplitl [HW5]; · iexact HW5
    isplitl [HSW01]; · iexact HSW01
    isplitl [HW1]; · iexact HW1
    isplitl [HAR4_1]; · iexact HAR4_1
    isplitl [HAR0_1]; · iexact HAR0_1
    isplitl [HG4]; · iexact HG4
    isplitl [HG5]; · iexact HG5
    isplitl [HR00_2]; · iexact HR00_2
    isplitl [HR01_2]; · iexact HR01_2
    isplitl [HSW10]; · iexact HSW10
    isplitl [HW7]; · iexact HW7
    isplitl [HSW11]; · iexact HSW11
    isplitl [HW4]; · iexact HW4
    isplitl [HAR6_1]; · iexact HAR6_1
    isplitl [HAR3_1]; · iexact HAR3_1
    isplitl [HG6]; · iexact HG6
    isplitl [HG7]; · iexact HG7
    isplitl [HR10_3]; · iexact HR10_3
    isplitl [HR11_3]; · iexact HR11_3
    isplitl [HAS1_1]; · iexact HAS1_1
    isplitl [HB2]; · iexact HB2
    isplitl [HAS5_1]; · iexact HAS5_1
    isplitl [HB6]; · iexact HB6
    isplitl [HAS2_1]; · iexact HAS2_1
    isplitl [HB3]; · iexact HB3
    isplitl [HAS4_1]; · iexact HAS4_1
    isplitl [HB5]; · iexact HB5
    isplitl [HAS0_1]; · iexact HAS0_1
    isplitl [HB1]; · iexact HB1
    isplitl [HAS6_1]; · iexact HAS6_1
    isplitl [HB7]; · iexact HB7
    isplitl [HAS3_1]; · iexact HAS3_1
    isplitl [HB4]; · iexact HB4
    isplitl [HSO]; · iexact HSO
    isplitl [HOL]; · iexact HOL
    isplitl [HAz]; · iexact HAz
    isplitl [HOw21]; · iexact HOw21
    iexact HAC_1
  iapply Hk

end Cert.Gather
end
-- ==== Proof.Launch.lean ====
/-
# The launch

The eight devices' resources at the launch, dealt out; the body's obligation; the run.
-/
module

public import proofs.«01_k».proof.Proof.Body

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3 eq_ix2 eq_ix3)

variable {F : FTy → Type} [FloatOps F]

local notation "𝕄" => MT nD τ sig Unit (Elt F) ℕ UU ℕ

variable (m : (ℓ : Loc nD τ sig) → Buf (Elt F) ℓ)

variable (ρ : Dev nD → PrngReg)

/-! ## The semaphores -/

/-- The one semaphore no transfer uses. -/
abbrev uQ : DmaSem sig := ⟨20, by decide⟩
/-- The kernel's own semaphores. -/
def osem (i : Fin 22) : SemLoc sig := if h : i.val < 21 then .dma ⟨i.val, h⟩ else .reg credS
theorem ownSemFacts : Pipeline.OwnSemFacts cfg0.spec osem := by decide

/-- A product over a device's sixteen cells, written out. -/
theorem fam16 (c : Dev nD) (Φ : GSem nD τ sig → sProp 𝕄) : (bigSep Finset.univ fun k : Fin 16 => Φ (kcell (c, k))) =
    iprop(Φ (sendCell c 0) ∗ Φ (sendCell c 1) ∗ Φ (sendCell c 2) ∗ Φ (sendCell c 3)
        ∗ Φ (sendCell c 4) ∗ Φ (sendCell c 5) ∗ Φ (sendCell c 6) ∗ Φ (recvCell c 0)
        ∗ Φ (recvCell c 1) ∗ Φ (recvCell c 2) ∗ Φ (recvCell c 3) ∗ Φ (recvCell c 4)
        ∗ Φ (recvCell c 5) ∗ Φ (recvCell c 6) ∗ Φ (credCell c) ∗ Φ (barCell c)) := by
  rw [bigSep_univ_eq_bigSepL [0, 1, 2, 3, 4, 5, 6, 7, 8, 9, 10, 11, 12, 13, 14, 15] (by decide) (by decide)]; rfl

/-- The semaphores of the transfers on the device itself, and the unused one, at zero. -/
def plain (c : Dev nD) : sProp 𝕄 :=
  iprop(semVal ((c : Thread nD τ), SemLoc.dma (wQ (0, 0))) 0 ∗ semVal ((c : Thread nD τ), SemLoc.dma (wQ (0, 1))) 0 ∗ semVal ((c : Thread nD τ), SemLoc.dma (wQ (1, 0))) 0 ∗ semVal ((c : Thread nD τ), SemLoc.dma (wQ (1, 1))) 0
        ∗ semVal ((c : Thread nD τ), SemLoc.dma xQ) 0 ∗ semVal ((c : Thread nD τ), SemLoc.dma oQ) 0 ∗ semVal ((c : Thread nD τ), SemLoc.dma uQ) 0)

theorem ownSems0_eq (c : Dev nD) : (Pipeline.ownSems0 (Ix := Unit) (Name := ℕ) (U := UU) (Lvl := ℕ) (Val := Elt F) (τ := τ) osem c : sProp 𝕄)
    = iprop(semVal (sendCell c 0) 0 ∗ semVal (sendCell c 1) 0 ∗ semVal (sendCell c 2) 0 ∗ semVal (sendCell c 3) 0
        ∗ semVal (sendCell c 4) 0 ∗ semVal (sendCell c 5) 0 ∗ semVal (sendCell c 6) 0 ∗ semVal (recvCell c 0) 0
        ∗ semVal (recvCell c 1) 0 ∗ semVal (recvCell c 2) 0 ∗ semVal (recvCell c 3) 0 ∗ semVal (recvCell c 4) 0
        ∗ semVal (recvCell c 5) 0 ∗ semVal (recvCell c 6) 0 ∗ semVal ((c : Thread nD τ), SemLoc.dma (wQ (0, 0))) 0 ∗ semVal ((c : Thread nD τ), SemLoc.dma (wQ (0, 1))) 0
        ∗ semVal ((c : Thread nD τ), SemLoc.dma (wQ (1, 0))) 0 ∗ semVal ((c : Thread nD τ), SemLoc.dma (wQ (1, 1))) 0 ∗ semVal ((c : Thread nD τ), SemLoc.dma xQ) 0 ∗ semVal ((c : Thread nD τ), SemLoc.dma oQ) 0
        ∗ semVal ((c : Thread nD τ), SemLoc.dma uQ) 0 ∗ semVal (credCell c) 0) := by
  rw [Pipeline.ownSems0_eq_of_list c osem [0, 1, 2, 3, 4, 5, 6, 7, 8, 9, 10, 11, 12, 13, 14, 15, 16, 17, 18, 19, 20, 21] (by decide) (by decide)]; rfl
theorem unscopedSems0_eq (c : Dev nD) : (unscopedSems0 c : sProp 𝕄) = semVal (barCell c) 0 := by
  unfold unscopedSems0; rw [bigSep_eq_bigSepL_of_eq [SemLoc.reg barS] (by decide) (by decide)]; rfl

/-- All of a device's semaphores are its sixteen cells and the plain ones. -/
theorem sems0_eq (c : Dev nD) :
    iprop(Pipeline.ownSems0 (Ix := Unit) (Name := ℕ) (U := UU) (Lvl := ℕ) (Val := Elt F) (τ := τ) osem c ∗ unscopedSems0 c)
      = (iprop((bigSep Finset.univ fun k : Fin 16 => semVal (kcell (c, k)) 0) ∗ plain c) : sProp 𝕄) := by
  rw [ownSems0_eq, unscopedSems0_eq, fam16 c fun g => semVal g 0]
  unfold plain
  refine Entails.antisymm ?_ ?_
  · show (_ : sProp 𝕄) ⊢ _
    iintro ⟨⟨HS0, HS1, HS2, HS3, HS4, HS5, HS6, HR0, HR1, HR2, HR3, HR4, HR5, HR6, HW00, HW01, HW10, HW11, HX, HO, HU, HC⟩, HB⟩
    isplitr [HW00 HW01 HW10 HW11 HX HO HU]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HR0]; · iexact HR0
      isplitl [HR1]; · iexact HR1
      isplitl [HR2]; · iexact HR2
      isplitl [HR3]; · iexact HR3
      isplitl [HR4]; · iexact HR4
      isplitl [HR5]; · iexact HR5
      isplitl [HR6]; · iexact HR6
      isplitl [HC]; · iexact HC
      iexact HB
    isplitl [HW00]; · iexact HW00
    isplitl [HW01]; · iexact HW01
    isplitl [HW10]; · iexact HW10
    isplitl [HW11]; · iexact HW11
    isplitl [HX]; · iexact HX
    isplitl [HO]; · iexact HO
    iexact HU
  · show (_ : sProp 𝕄) ⊢ _
    iintro ⟨⟨HS0, HS1, HS2, HS3, HS4, HS5, HS6, HR0, HR1, HR2, HR3, HR4, HR5, HR6, HC, HB⟩, HW00, HW01, HW10, HW11, HX, HO, HU⟩
    isplitr [HB]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HR0]; · iexact HR0
      isplitl [HR1]; · iexact HR1
      isplitl [HR2]; · iexact HR2
      isplitl [HR3]; · iexact HR3
      isplitl [HR4]; · iexact HR4
      isplitl [HR5]; · iexact HR5
      isplitl [HR6]; · iexact HR6
      isplitl [HW00]; · iexact HW00
      isplitl [HW01]; · iexact HW01
      isplitl [HW10]; · iexact HW10
      isplitl [HW11]; · iexact HW11
      isplitl [HX]; · iexact HX
      isplitl [HO]; · iexact HO
      isplitl [HU]; · iexact HU
      iexact HC
    iexact HB

/-! ## What the launch deals out -/

theorem csem_injective : Function.Injective csem := by decide
theorem kcell_injective : Function.Injective (kcell : Dev nD × Fin 16 → GSem nD τ sig) := by
  rintro ⟨c, k⟩ ⟨c', k'⟩ h
  obtain rfl : c = c' := congrArg (fun g : GSem nD τ sig => g.1.1) h
  obtain rfl : k = k' := csem_injective (congrArg Prod.snd h)
  rfl
/-- The cells of all devices. -/
def allCells : Finset (GSem nD τ sig) := Finset.univ.map ⟨kcell, kcell_injective⟩

/-- The token of the duty device `c` pays, of its four kinds. -/
def tokOf (x : Dev nD × Fin 4 × Fin 7) : GSem nD τ sig × ℕ × Fin 7 :=
  ![(barCell (up x.1 x.2.2), 0, rev x.2.2), (sendCell x.1 x.2.2, 0, 0), (recvCell (up x.1 x.2.2) x.2.2, 0, 0), (credCell (dn x.1 x.2.2), 0, x.2.2)] x.2.1
theorem tokOf_key : Function.Injective fun x : Fin 4 × Fin 7 => ((tokOf (0, x)).1.2, (tokOf (0, x)).2.2) := by decide
theorem tokOf_key_eq (x : Dev nD × Fin 4 × Fin 7) : ((tokOf x).1.2, (tokOf x).2.2) = ((tokOf (0, x.2)).1.2, (tokOf (0, x.2)).2.2) := by
  obtain ⟨c, a, k⟩ := x; fin_cases a <;> rfl
theorem tokOf_dev (a : Fin 4) (k : Fin 7) (c c' : Dev nD) (h : (tokOf (c, a, k)).1.1.1 = (tokOf (c', a, k)).1.1.1) : c = c' := by
  fin_cases a
  · have h' : up c k = up c' k := h
    rw [← dn_up c k, h', dn_up]
  · exact h
  · have h' : up c k = up c' k := h
    rw [← dn_up c k, h', dn_up]
  · have h' : dn c k = dn c' k := h
    rw [← up_dn c k, h', up_dn]
theorem tokOf_injective : Function.Injective tokOf := by
  rintro ⟨c, x⟩ ⟨c', x'⟩ h
  obtain rfl : x = x' := tokOf_key ((tokOf_key_eq (c, x)).symm.trans ((congrArg (fun y => (y.1.2, y.2.2)) h).trans (tokOf_key_eq (c', x'))))
  obtain rfl : c = c' := tokOf_dev x.1 x.2 c c' (congrArg (fun y => y.1.1.1) h)
  rfl
/-- The tokens of all duties. -/
def allToks : Finset (GSem nD τ sig × ℕ × Fin 7) := Finset.univ.map ⟨tokOf, tokOf_injective⟩

def u₀ : UU := (initOf (Pipeline.cells cfgs cellOf_inj) (Pipeline.launchToks cfgs cellOf_inj), (initOf allCells allToks, 1))

/-- The tokens of the duties device `c` pays. -/
def payToks (c : Dev nD) : sProp 𝕄 :=
  iprop((bigSep Finset.univ fun k : Fin 7 => dutyTok ER (barCell (up c k)) 0 (rev k)) ∗ (bigSep Finset.univ fun k : Fin 7 => dutyTok ER (sendCell c k) 0 0)
    ∗ (bigSep Finset.univ fun k : Fin 7 => dutyTok ER (recvCell (up c k) k) 0 0) ∗ (bigSep Finset.univ fun k : Fin 7 => dutyTok ER (credCell (dn c k)) 0 k))

/-- What the launch deals device `c`: its cells' rounds, its positions in them, its duties' tokens. -/
def G (c : Dev nD) : sProp 𝕄 :=
  iprop((bigSep Finset.univ fun k : Fin 16 => roundState ER (Rd m) (kcell (c, k)) 0)
    ∗ (bigSep Finset.univ fun k : Fin 16 => reached ER (kcell (c, k)) 0) ∗ (bigSep Finset.univ fun k : Fin 16 => atPos ER (kcell (c, k)) 0 ∅ 0) ∗ payToks c)

theorem fund_all : BI.own (ER (initOf allCells allToks)) ⊢ (|==> bigSep Finset.univ (G (F := F) m) : sProp 𝕄) := by
  have hX (Φ : GSem nD τ sig → sProp 𝕄) : bigSep allCells Φ = bigSep Finset.univ fun c : Dev nD => bigSep Finset.univ fun k : Fin 16 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => payToks c := by
    unfold allToks; rw [bigSep_map, bigSep_univ_prod]
    refine bigSep_congr fun c _ => ?_
    unfold payToks
    rw [bigSep_univ_prod, bigSep_univ_eq_bigSepL [0, 1, 2, 3] (by decide) (by decide)]
    rfl
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hr']; · iexact Hr'
  isplitl [Hat']; · iexact Hat'
  iexact Htok'

theorem ownU_split (a : UR sig nD τ) (b : UB) : (ownU ((a, (b, 1)) : UU) : sProp 𝕄) ⊢ iprop(BI.own (EP (F := F) a) ∗ BI.own (ER (F := F) b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

/-- What everyone knows of the cells. -/
def recs : sProp 𝕄 := bigSep Finset.univ fun ci : Dev nD × Fin 16 => known m (kcell ci)
instance recs_persistent : BI.Persistent (recs (F := F) m) := by unfold recs; infer_instance

/-- What device `c` has of its own: positions, tokens, plain semaphores. -/
def lin (c : Dev nD) : sProp 𝕄 := iprop((bigSep Finset.univ fun k : Fin 16 => atPos ER (kcell (c, k)) 0 ∅ 0) ∗ payToks c ∗ plain c)
def G' (c : Dev nD) : sProp 𝕄 := iprop(recs m ∗ lin c)

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 16 => known m (kcell (c, k))) ∗ lin c) := by
  unfold G
  iintro ⟨Hos, Hus, Hst, Hr, Hat, Htok⟩
  ihave Hv := (Entails.of_eq (sems0_eq (F := F) c)) $$ [Hos Hus]
  · isplitl [Hos] <;> iassumption
  icases Hv with ⟨Hv, Hp⟩
  imod (show iprop((bigSep Finset.univ fun k : Fin 16 => semVal (kcell (c, k)) 0) ∗ bigSep Finset.univ fun k : Fin 16 => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv Hr]
  · iapply (show iprop((bigSep Finset.univ fun k : Fin 16 => iprop(∃ κ : ℕ, cellInv ER (Rd m) κ (kcell (c, k)))) ∗ bigSep Finset.univ fun k : Fin 16 => reached ER (kcell (c, k)) 0)
        ⊢ (bigSep Finset.univ fun k : Fin 16 => known m (kcell (c, k)) : sProp 𝕄) from by
          rw [← bigSep_sep']
          refine bigSep_mono fun k _ => ?_
          show (_ : sProp 𝕄) ⊢ _
          unfold known
          iintro ⟨⟨%κ, Hi⟩, Hr⟩
          iexists κ
          isplitl [Hi] <;> iassumption)
    isplitl [Hinv] <;> iassumption
  unfold lin
  isplitl [Hat]; · iexact Hat
  isplitl [Htok]; · iexact Htok
  iexact Hp

omit [FloatOps F] in
theorem bigSep_with_persistent {I : Type} [DecidableEq I] {S : Finset I} {R : sProp 𝕄} [BI.Persistent R] (Φ : I → sProp 𝕄) :
    iprop(R ∗ bigSep S Φ) ⊢ bigSep S fun i => iprop(R ∗ Φ i) :=
  (sep_mono_left (BI.bigSep_of_persistent S R)).trans (by rw [← bigSep_sep'])

theorem regroup : (bigSep Finset.univ fun c : Dev nD => iprop((bigSep Finset.univ fun k : Fin 16 => known m (kcell (c, k))) ∗ lin c) : sProp 𝕄)
    ⊢ bigSep Finset.univ (G' (F := F) m) := by
  rw [bigSep_sep', ← bigSep_univ_prod (fun ci : Dev nD × Fin 16 => (known m (kcell ci) : sProp 𝕄))]
  exact bigSep_with_persistent (R := recs (F := F) m) fun c => lin c
/-- The global step: the semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' (F := F) m) :=
  ((bigSep_mono fun c _ => core_alloc m c).trans (bigSep_fupd _ _)).trans (BI.fupd_mono (regroup m))

/-! ## The launch credit -/

/-- The bijection of the devices a shift is. -/
def shift (k : Fin 7) : Dev nD ≃ Dev nD := ⟨fun c => up c k, fun c => dn c k, fun c => dn_up c k, fun c => up_dn c k⟩

/-- What device `c` waits for. -/
def T (c : Dev nD) : CellTallies nD τ sig Unit := tallyAt (barCell c) () 7 + ((∑ k : Fin 7, tallyAt (recvCell c k) () N) + tallyAt (credCell c) () 7)

theorem owedL_dues (d : Dev nD) : owedL (dues d) = (∑ k : Fin 7, tallyAt (barCell (up d k)) () 1)
    + ((∑ k : Fin 7, tallyAt (recvCell (up d k) k) () N) + ∑ k : Fin 7, tallyAt (credCell (dn d k)) () 1) := by
  unfold dues
  simp only [owedL, Fin.sum_univ_seven, zero_add]
  ac_rfl
theorem sum7 (g : GSem nD τ sig) : (∑ _k : Fin 7, tallyAt g () 1 : CellTallies nD τ sig Unit) = tallyAt g () 7 := by
  simp only [Fin.sum_univ_seven, tallyAt_add]
theorem dues_sum : (∑ d : Dev nD, owedL (dues d)) = ∑ d : Dev nD, T d := by
  have hb : (∑ d : Dev nD, ∑ k : Fin 7, tallyAt (barCell (up d k)) () 1 : CellTallies nD τ sig Unit) = ∑ d : Dev nD, ∑ _k : Fin 7, tallyAt (barCell d) () 1 := by
    rw [Finset.sum_comm]
    exact (Finset.sum_congr rfl fun k _ => (shift k).sum_comp fun d => (tallyAt (barCell d) () 1 : CellTallies nD τ sig Unit)).trans Finset.sum_comm
  have hr : (∑ d : Dev nD, ∑ k : Fin 7, tallyAt (recvCell (up d k) k) () N : CellTallies nD τ sig Unit) = ∑ d : Dev nD, ∑ k : Fin 7, tallyAt (recvCell d k) () N := by
    rw [Finset.sum_comm]
    exact (Finset.sum_congr rfl fun k _ => (shift k).sum_comp fun d => (tallyAt (recvCell d k) () N : CellTallies nD τ sig Unit)).trans Finset.sum_comm
  have hc : (∑ d : Dev nD, ∑ k : Fin 7, tallyAt (credCell (dn d k)) () 1 : CellTallies nD τ sig Unit) = ∑ d : Dev nD, ∑ _k : Fin 7, tallyAt (credCell d) () 1 := by
    rw [Finset.sum_comm]
    exact (Finset.sum_congr rfl fun k _ => (shift k).symm.sum_comp fun d => (tallyAt (credCell d) () 1 : CellTallies nD τ sig Unit)).trans Finset.sum_comm
  unfold T
  simp only [owedL_dues, Finset.sum_add_distrib, ← sum7]
  rw [hb, hr, hc]
theorem T_own (d : Dev nD) (g : GSem nD τ sig) (h : T d g ≠ 0) : g.1 = (d : Thread nD τ) := by
  by_contra hn
  apply h
  have z (sm : SemLoc sig) (n : ℕ) : (tallyAt (((d : Thread nD τ), sm) : GSem nD τ sig) () n : CellTallies nD τ sig Unit) g = 0 :=
    tallyAt_ne_cell (fun e => hn (congrArg Prod.fst e)) () n
  unfold T
  rw [Pi.add_apply, Pi.add_apply, Finset.sum_apply, z, z, Finset.sum_eq_zero fun k _ => z _ _]
  simp

/-- The credits of device `c`'s waits. -/
def creds (c : Dev nD) : sProp 𝕄 :=
  iprop(cred (tallyAt (barCell c) () 7) ∗ (bigSep Finset.univ fun k : Fin 7 => cred (tallyAt (recvCell c k) () N)) ∗ cred (tallyAt (credCell c) () 7))
omit [FloatOps F] in
theorem cred_fam (T : Fin 7 → CellTallies nD τ sig Unit) : (cred (∑ k, T k) : sProp 𝕄) = bigSep Finset.univ fun k => cred (T k) := by
  have h (s : Finset (Fin 7)) : (cred (∑ k ∈ s, T k) : sProp 𝕄) = bigSep s fun k => cred (T k) := by
    induction s using Finset.induction_on with
    | empty => rw [Finset.sum_empty, cred_zero, bigSep_empty]; rfl
    | insert a s ha ih => rw [Finset.sum_insert ha, bigSep_insert ha, Entails.antisymm (cred_add _ _).1 (cred_add _ _).2, ih]; rfl
  exact h _
theorem launch_creds (c : Dev nD) : (Pipeline.launchCred (fun d : Dev nD => owedL (dues d)) c : sProp 𝕄) ⊢ creds c := by
  rw [Pipeline.launchCred_of_sum (fun d : Dev nD => owedL (dues d)) T dues_sum T_own c]
  unfold T creds
  refine (cred_add _ _).1.trans (sep_mono_right ((cred_add _ _).1.trans (sep_mono_left ?_)))
  rw [cred_fam]

/-! ## The body's obligation -/

/-- What a device starts from. -/
def start (c : Dev nD) : sProp 𝕄 :=
  iprop(env m ∗ lin c ∗ creds c ∗ pc c main_arg0 Finset.univ (xC m c) ∗ pc c main_arg1 Finset.univ (wC m c) ∗ pc c main_v1 Finset.univ (m ((c : Thread nD τ).loc main_v1)))
/-- The buffers a device ends with. -/
def ends (c : Dev nD) : sProp 𝕄 :=
  iprop(pc c main_arg0 Finset.univ (xC m c) ∗ pc c main_arg1 Finset.univ (wC m c) ∗ pc c main_v1 Finset.univ (outC m c))

def Φ₀ (c : Dev nD) : sProp 𝕄 := iprop(start m c ∗ Pipeline.scopedRest cfg0.spec c)
def Φ₁ (c : Dev nD) : sProp 𝕄 :=
  iprop((ends m c ∗ unscopedSems0 c) ∗ Pipeline.ownSems0 (Ix := Unit) (Name := ℕ) (U := UU) (Lvl := ℕ) (Val := Elt F) (τ := τ) osem c ∗ Pipeline.scopedRest cfg0.spec c)

/-- The proof data of the one region on device `c`. -/
def dats (_ : Fin 1) (c : Dev nD) : Dat τ (Elt F) Unit ℕ UU ℕ cfg0 c where
  A w := w.elim0
  after w := w.elim0
  Φ t := match t with | ⟨0, _⟩ => Φ₀ m c | ⟨_ + 1, _⟩ => Φ₁ m c
  q w := w.elim0
  owed t := match t with | ⟨0, _⟩ => owedL (dues c) | ⟨_ + 1, _⟩ => 0

theorem share_eq (c : Dev nD) (w : Fin cfg0.W) : (dats m 0 c).share w = fullShare := w.elim0

omit [FloatOps F] in
theorem bigSep_W0 (Φ : Fin 0 → sProp 𝕄) : bigSep Finset.univ Φ = (BI.emp : sProp 𝕄) := bigSep_univ_eq_bigSepL [] (by decide) (by decide) Φ

/-- The cells close: every counter is zero again. -/
theorem close_all (c : Dev nD) : iprop(env (F := F) m ∗ bigSep Finset.univ fun k : Fin 16 => atPos ER (kcell (c, k)) 1 ∅ 0)
    ⊢ |={Set.univ}=> bigSep Finset.univ fun k : Fin 16 => semVal (kcell (c, k)) 0 := by
  refine (bigSep_with_persistent (R := env (F := F) m) _).trans ((bigSep_mono fun k _ => ?_).trans (bigSep_fupd _ _))
  exact (sep_mono_left (env_cell m (c, k))).trans (close_cell m (kcell (c, k)))

set_option maxHeartbeats 4000000 in
theorem body_run (c : Dev nD) {Q : PUnit → sProp 𝕄} :
    iprop(Φ₀ m c ∗ Ow c 0) ⊢ iprop(((|={Set.univ}=> (Φ₁ m c ∗ Ow c 21)) -∗ Q ⟨⟩)
        -∗ WP c (cc0_body x0 (Memref.isWhole_whole _) w0 (Memref.isWhole_whole _) o0 (Memref.isWhole_whole _) xM (Memref.isWhole_whole _)
            bM (Memref.isWhole_whole _) gM (Memref.isWhole_whole _) wM (Memref.isWhole_whole _) aM (Memref.isWhole_whole _)
            cc0_scratch5 cc0_scratch6 cc0_scratch7 cc0_scratch8 cc0_scratch9 cc0_scratch10) Q) := by
  unfold Φ₀ start lin payToks creds plain
  rw [scopedRest0_eq, cut_w, fam8, fam7, fam7, fam7, fam7, fam7, fam16 c fun g => atPos ER g 0 ∅ 0]
  iintro ⟨⟨⟨#He, ⟨⟨HAS0_0, HAS1_0, HAS2_0, HAS3_0, HAS4_0, HAS5_0, HAS6_0, HAR0_0, HAR1_0, HAR2_0, HAR3_0, HAR4_0, HAR5_0, HAR6_0, HAC_0, HAB_0⟩, ⟨⟨HTB0, HTB1, HTB2, HTB3, HTB4, HTB5, HTB6⟩, ⟨HTS0, HTS1, HTS2, HTS3, HTS4, HTS5, HTS6⟩, ⟨HTR0, HTR1, HTR2, HTR3, HTR4, HTR5, HTR6⟩, HTC0, HTC1, HTC2, HTC3, HTC4, HTC5, HTC6⟩, HSW00, HSW01, HSW10, HSW11, HSX, HSO, HU⟩,
      ⟨HCB, ⟨HCR0, HCR1, HCR2, HCR3, HCR4, HCR5, HCR6⟩, HCC⟩, HX, ⟨HW0, HW1, HW2, HW3, HW4, HW5, HW6, HW7⟩, HO⟩, ⟨%f0, HXS⟩, ⟨%f1, HB⟩, ⟨%f2, HG⟩, ⟨%f3, HR⟩, ⟨%f4, HA⟩⟩, HOw0⟩ Hk
  ihave HG' := (Entails.of_eq ((cut_g (F := F) c f2).trans (fam8 _))) $$ HG
  icases HG' with ⟨HGz, HGP5, HGP1, HGP4, HGP2, HGP6, HGP0, HGP3⟩
  ihave HR' := (Entails.of_eq ((cut_h (F := F) c f3).trans (fam4 _))) $$ HR
  icases HR' with ⟨HR00, HR01, HR10, HR11⟩
  iapply (sound_body m c f0 f1 f2 f3 f4 (m ((c : Thread nD τ).loc main_v1))) $$ [HX HXS HSX HW0 HR00 HSW00 HW2 HR01 HSW01 HOw0 HTB0 HGP0 HTB1 HGP1 HTB2 HGP2 HTB3 HGP3 HTB4 HGP4 HTB5 HGP5 HTB6 HGP6 HB HCB HAB_0 HTS1 HTR1 HTS5 HTR5 HTS2 HTR2 HTS4 HTR4 HTS0 HTR0 HTS6 HTR6 HTS3 HTR3 HGz HW6 HR10 HSW10 HW3 HR11 HSW11 HCR1 HAR1_0 HA HTC1 HW5 HW1 HCR5 HAR5_0 HCR2 HAR2_0 HTC5 HTC2 HW7 HW4 HCR4 HAR4_0 HCR0 HAR0_0 HTC4 HTC0 HCR6 HAR6_0 HCR3 HAR3_0 HO HSO HTC6 HTC3 HAS1_0 HAS5_0 HAS2_0 HAS4_0 HAS0_0 HAS6_0 HAS3_0 HCC HAC_0]
  · isplitr; · iexact He
    isplitl [HX]; · iexact HX
    isplitl [HXS]; · iexact HXS
    isplitl [HSX]; · iexact HSX
    isplitl [HW0]; · iexact HW0
    isplitl [HR00]; · iexact HR00
    isplitl [HSW00]; · iexact HSW00
    isplitl [HW2]; · iexact HW2
    isplitl [HR01]; · iexact HR01
    isplitl [HSW01]; · iexact HSW01
    isplitl [HOw0]; · iexact HOw0
    isplitl [HTB0]; · iexact HTB0
    isplitl [HGP0]; · iexact HGP0
    isplitl [HTB1]; · iexact HTB1
    isplitl [HGP1]; · iexact HGP1
    isplitl [HTB2]; · iexact HTB2
    isplitl [HGP2]; · iexact HGP2
    isplitl [HTB3]; · iexact HTB3
    isplitl [HGP3]; · iexact HGP3
    isplitl [HTB4]; · iexact HTB4
    isplitl [HGP4]; · iexact HGP4
    isplitl [HTB5]; · iexact HTB5
    isplitl [HGP5]; · iexact HGP5
    isplitl [HTB6]; · iexact HTB6
    isplitl [HGP6]; · iexact HGP6
    isplitl [HB]; · iexact HB
    isplitl [HCB]; · iexact HCB
    isplitl [HAB_0]; · iexact HAB_0
    isplitl [HTS1]; · iexact HTS1
    isplitl [HTR1]; · iexact HTR1
    isplitl [HTS5]; · iexact HTS5
    isplitl [HTR5]; · iexact HTR5
    isplitl [HTS2]; · iexact HTS2
    isplitl [HTR2]; · iexact HTR2
    isplitl [HTS4]; · iexact HTS4
    isplitl [HTR4]; · iexact HTR4
    isplitl [HTS0]; · iexact HTS0
    isplitl [HTR0]; · iexact HTR0
    isplitl [HTS6]; · iexact HTS6
    isplitl [HTR6]; · iexact HTR6
    isplitl [HTS3]; · iexact HTS3
    isplitl [HTR3]; · iexact HTR3
    isplitl [HGz]; · iexact HGz
    isplitl [HW6]; · iexact HW6
    isplitl [HR10]; · iexact HR10
    isplitl [HSW10]; · iexact HSW10
    isplitl [HW3]; · iexact HW3
    isplitl [HR11]; · iexact HR11
    isplitl [HSW11]; · iexact HSW11
    isplitl [HCR1]; · iexact HCR1
    isplitl [HAR1_0]; · iexact HAR1_0
    isplitl [HA]; · iexact HA
    isplitl [HTC1]; · iexact HTC1
    isplitl [HW5]; · iexact HW5
    isplitl [HW1]; · iexact HW1
    isplitl [HCR5]; · iexact HCR5
    isplitl [HAR5_0]; · iexact HAR5_0
    isplitl [HCR2]; · iexact HCR2
    isplitl [HAR2_0]; · iexact HAR2_0
    isplitl [HTC5]; · iexact HTC5
    isplitl [HTC2]; · iexact HTC2
    isplitl [HW7]; · iexact HW7
    isplitl [HW4]; · iexact HW4
    isplitl [HCR4]; · iexact HCR4
    isplitl [HAR4_0]; · iexact HAR4_0
    isplitl [HCR0]; · iexact HCR0
    isplitl [HAR0_0]; · iexact HAR0_0
    isplitl [HTC4]; · iexact HTC4
    isplitl [HTC0]; · iexact HTC0
    isplitl [HCR6]; · iexact HCR6
    isplitl [HAR6_0]; · iexact HAR6_0
    isplitl [HCR3]; · iexact HCR3
    isplitl [HAR3_0]; · iexact HAR3_0
    isplitl [HO]; · iexact HO
    isplitl [HSO]; · iexact HSO
    isplitl [HTC6]; · iexact HTC6
    isplitl [HTC3]; · iexact HTC3
    isplitl [HAS1_0]; · iexact HAS1_0
    isplitl [HAS5_0]; · iexact HAS5_0
    isplitl [HAS2_0]; · iexact HAS2_0
    isplitl [HAS4_0]; · iexact HAS4_0
    isplitl [HAS0_0]; · iexact HAS0_0
    isplitl [HAS6_0]; · iexact HAS6_0
    isplitl [HAS3_0]; · iexact HAS3_0
    isplitl [HCC]; · iexact HCC
    iexact HAC_0
  iintro ⟨HSX, HX, HXL, HAB_1, HB0, HW0, HW2, HAR1_1, HG0, HG1, HW6, HW3, HAR5_1, HAR2_1, HG2, HG3, HSW00, HW5, HSW01, HW1, HAR4_1, HAR0_1, HG4, HG5, HR00_2, HR01_2, HSW10, HW7, HSW11, HW4, HAR6_1, HAR3_1, HG6, HG7, HR10_3, HR11_3, HAS1_1, HB2, HAS5_1, HB6, HAS2_1, HB3, HAS4_1, HB5, HAS0_1, HB1, HAS6_1, HB7, HAS3_1, HB4, HSO, HOL, HAz, HOw21, HAC_1⟩
  iapply Hk
  imod (close_all m c) $$ [HAS0_1 HAS1_1 HAS2_1 HAS3_1 HAS4_1 HAS5_1 HAS6_1 HAR0_1 HAR1_1 HAR2_1 HAR3_1 HAR4_1 HAR5_1 HAR6_1 HAC_1 HAB_1] with Hz
  · isplitr; · iexact He
    rw [fam16 c fun g => atPos ER g 1 ∅ 0]
    isplitl [HAS0_1]; · iexact HAS0_1
    isplitl [HAS1_1]; · iexact HAS1_1
    isplitl [HAS2_1]; · iexact HAS2_1
    isplitl [HAS3_1]; · iexact HAS3_1
    isplitl [HAS4_1]; · iexact HAS4_1
    isplitl [HAS5_1]; · iexact HAS5_1
    isplitl [HAS6_1]; · iexact HAS6_1
    isplitl [HAR0_1]; · iexact HAR0_1
    isplitl [HAR1_1]; · iexact HAR1_1
    isplitl [HAR2_1]; · iexact HAR2_1
    isplitl [HAR3_1]; · iexact HAR3_1
    isplitl [HAR4_1]; · iexact HAR4_1
    isplitl [HAR5_1]; · iexact HAR5_1
    isplitl [HAR6_1]; · iexact HAR6_1
    isplitl [HAC_1]; · iexact HAC_1
    iexact HAB_1
  ihave HRj := (join_h c fun p => if p.1 = 0 then wbC m c 2 else wbC m c 3) $$ [HR00_2 HR01_2 HR10_3 HR11_3]
  · rw [fam4]
    isplitl [HR00_2]; · iexact HR00_2
    isplitl [HR01_2]; · iexact HR01_2
    isplitl [HR10_3]; · iexact HR10_3
    iexact HR11_3
  ihave Hsem := (Entails.of_eq (sems0_eq (F := F) c).symm) $$ [Hz HSW00 HSW01 HSW10 HSW11 HSX HSO HU]
  · isplitl [Hz]; · iexact Hz
    unfold plain
    isplitl [HSW00]; · iexact HSW00
    isplitl [HSW01]; · iexact HSW01
    isplitl [HSW10]; · iexact HSW10
    isplitl [HSW11]; · iexact HSW11
    isplitl [HSX]; · iexact HSX
    isplitl [HSO]; · iexact HSO
    iexact HU
  icases Hsem with ⟨Hown, Huns⟩
  imodintro
  isplitr [HOw21]
  · unfold Φ₁ ends
    rw [scopedRest0_eq, cut_w, fam8]
    isplitl [HX HW0 HW1 HW2 HW3 HW4 HW5 HW6 HW7 HOL Huns]
    · isplitr [Huns]
      · isplitl [HX]; · iexact HX
        isplitr [HOL]
        · isplitl [HW0]; · iexact HW0
          isplitl [HW1]; · iexact HW1
          isplitl [HW2]; · iexact HW2
          isplitl [HW3]; · iexact HW3
          isplitl [HW4]; · iexact HW4
          isplitl [HW5]; · iexact HW5
          isplitl [HW6]; · iexact HW6
          iexact HW7
        iexact HOL
      iexact Huns
    isplitl [Hown]; · iexact Hown
    isplitl [HXL]; · iexists (xC m c); iexact HXL
    isplitl [HB0 HB1 HB2 HB3 HB4 HB5 HB6 HB7]
    · iexists (xbC m c)
      iapply (Entails.of_eq ((cut_b (F := F) c (xbC m c)).trans (fam8 _)).symm)
      isplitl [HB0]; · iexact HB0
      isplitl [HB1]; · iexact HB1
      isplitl [HB2]; · iexact HB2
      isplitl [HB3]; · iexact HB3
      isplitl [HB4]; · iexact HB4
      isplitl [HB5]; · iexact HB5
      isplitl [HB6]; · iexact HB6
      iexact HB7
    isplitl [HG0 HG1 HG2 HG3 HG4 HG5 HG6 HG7]
    · iexists (gxC m c)
      iapply (Entails.of_eq ((cut_g (F := F) c (gxC m c)).trans (fam8 _)).symm)
      isplitl [HG0]; · iexact HG0
      isplitl [HG1]; · iexact HG1
      isplitl [HG2]; · iexact HG2
      isplitl [HG3]; · iexact HG3
      isplitl [HG4]; · iexact HG4
      isplitl [HG5]; · iexact HG5
      isplitl [HG6]; · iexact HG6
      iexact HG7
    isplitl [HRj]; · iexact HRj
    iexists (outC m c); iexact HAz
  iexact HOw21

end Cert.Gather
end
-- ==== Proof.Run.lean ====
/-
# The run

From any memory, every execution of the eight devices ends, with the result in every device's output buffer, the
arguments unchanged and every semaphore at zero.
-/
module

public import proofs.«01_k».proof.Proof.Launch
public import Idealize.ShloMosaic.Lib.Pipeline.CollectiveSegs

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3 eq_ix2 eq_ix3)

variable {F : FTy → Type} [FloatOps F]

local notation "𝕄" => MT nD τ sig Unit (Elt F) ℕ UU ℕ

variable (m : (ℓ : Loc nD τ sig) → Buf (Elt F) ℓ)

variable (ρ : Dev nD → PrngReg)

/-- The library's body obligation on device `c`. -/
theorem body_obligation (c : Dev nD) : BodyObligation (dats (F := F) m 0 c) (defs₀ (F := F)) 𝒱₀ () Set.univ := fun t => by
  rw [show t = t0_0 from fin_N0 t]
  rw [bigSep_W0, bigSep_W0]
  show iprop(Φ₀ m c ∗ (dats m 0 c).owesAt () (Fin.castSucc t0_0) ∗ BI.emp) ⊢ WP c (cc0_body x0 (Memref.isWhole_whole _) w0 (Memref.isWhole_whole _) o0 (Memref.isWhole_whole _) xM (Memref.isWhole_whole _)
            bM (Memref.isWhole_whole _) gM (Memref.isWhole_whole _) wM (Memref.isWhole_whole _) aM (Memref.isWhole_whole _)
            cc0_scratch5 cc0_scratch6 cc0_scratch7 cc0_scratch8 cc0_scratch9 cc0_scratch10)
    fun _ => iprop(Φ₁ m c ∗ (dats m 0 c).owesAt () (Fin.succ t0_0) ∗ BI.emp)
  have e0 : (dats (F := F) m 0 c).owed (Fin.castSucc t0_0) = owedL ((dues c).drop 0) := rfl
  have e1 : (dats (F := F) m 0 c).owed (Fin.succ t0_0) = owedL ((dues c).drop 21) := rfl
  unfold Dat.owesAt Pipeline.owesWithin
  rw [e0, e1]
  refine BIBase.Entails.trans ?_ (wp_fupd _ _ _ _ _)
  show (_ : sProp 𝕄) ⊢ _
  iintro ⟨HΦ, ⟨%W, %hW, HO⟩, -⟩
  iapply (body_run m c) $$ [HΦ HO]
  · isplitl [HΦ]; · iexact HΦ
    unfold Ow; iexists W; iexact HO
  iintro H
  imod H with ⟨HΦ, HO⟩
  imodintro
  isplitl [HΦ]; · iexact HΦ
  isplitl [HO]
  · unfold Ow
    icases HO with ⟨%W', HO⟩
    iexists W'
    isplitr; · ipureintro; exact fun _ _ => Or.inl trivial
    iexact HO
  iempintro

theorem start_intro (c : Dev nD) :
    iprop(Pipeline.unscopedRestP Pipeline.Prefetch.none cfg0.spec c (fun b => m ((c : Thread nD τ).loc b)) ∗ levAts L lv
        ∗ Pipeline.launchCred (fun d : Dev nD => owedL (dues d)) c ∗ prngReg c (ρ c) ∗ G' m c)
      ⊢ |={Set.univ}=> iprop(start m c ∗ emp) := by
  rw [Pipeline.unscopedRestP_none, unscopedRest0_eq]
  unfold G' start env recs
  iintro ⟨⟨HX, HW, HO⟩, Hlev, Hcr, -, Hrec, Hlin⟩
  ihave Hc := (launch_creds (F := F) c) $$ Hcr
  imodintro
  isplitl
  · isplitl [Hrec Hlev]
    · isplitl [Hrec] <;> iassumption
    isplitl [Hlin]; · iexact Hlin
    isplitl [Hc]; · iexact Hc
    isplitl [HX]; · iexact HX
    isplitl [HW]; · iexact HW
    iexact HO
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀
  iintro ⟨Hs, -, Hr⟩
  isplitl [Hs]; · iexact Hs
  iexact Hr

theorem phi1_exit (c : Dev nD) :
    (dats m 0 c).Φ (Fin.last cfg0.N) ⊢ iprop((ends m c ∗ unscopedSems0 c) ∗ Pipeline.ownSems0 osem c ∗ Pipeline.scopedRest cfg0.spec c) := by
  rw [show (dats m 0 c).Φ (Fin.last cfg0.N) = Φ₁ m c from rfl]
  unfold Φ₁
  exact .rfl

theorem waits (c : Dev nD) : (levAts L lv : sProp 𝕄) ⊢ Pipeline.cellsWaits cfgs (dats m) () 0 c :=
  Pipeline.cellsWaits_intro cfgs (dats m) () 0 c fun w => w.elim0

/-- A device's buffers at the end. -/
def Ends (c : Dev nD) (s : MemSt nD τ sig (Elt F)) : Prop :=
  s.mem ((c : Thread nD τ).loc main_arg0) = xC m c ∧ s.mem ((c : Thread nD τ).loc main_arg1) = wC m c ∧ s.mem ((c : Thread nD τ).loc main_v1) = outC m c

theorem ends_read (c : Dev nD) (s' : Phys nD τ sig (Elt F)) : iprop(ends m c ∗ SI s') ⊢ (⌜Ends m c s'.mem⌝ : sProp 𝕄) := by
  unfold ends
  iintro ⟨⟨HX, HW, HO⟩, HSI⟩
  ihave %hx := (SI_pointsTo_agree (st := s') (ℓ := (c : Thread nD τ).loc main_arg0) (I := Finset.univ) (q := fullShare) (f := xC m c)) $$ [HSI HX]
  · isplitl [HSI] <;> iassumption
  ihave %hw := (SI_pointsTo_agree (st := s') (ℓ := (c : Thread nD τ).loc main_arg1) (I := Finset.univ) (q := fullShare) (f := wC m c)) $$ [HSI HW]
  · isplitl [HSI] <;> iassumption
  ihave %ho := (SI_pointsTo_agree (st := s') (ℓ := (c : Thread nD τ).loc main_v1) (I := Finset.univ) (q := fullShare) (f := outC m c)) $$ [HSI HO]
  · isplitl [HSI] <;> iassumption
  ipureintro
  exact ⟨funext fun i => hx i (Finset.mem_univ i), funext fun i => hw i (Finset.mem_univ i), funext fun i => ho i (Finset.mem_univ i)⟩

set_option maxRecDepth 8000 in
/-- At the mesh of eight devices, for any float values, from any memory with zero counters: every weakly fair execution
    ends, and every final state has each device's arguments unchanged, its result as computed, and every semaphore at zero. -/
theorem run_main : θ_run defs (onTc (τ := τ) (main (F := F))) ⟨m, fun _ => 0, ρ⟩ (fun r => (∀ c, Ends m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := fun w => w.elim0) (harr := arr_whole0) (hstage := stage_whole0) (hshare := share_eq m)
    (hdistinct := winFacts0.arr_inj)
    (O₀ := fun d => owedL (dues d)) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_split _ _) $$ Hu
      icases H with ⟨HP, HX⟩
      imod (fund_all m) $$ HX with HG
      imodintro
      isplitl [HP] <;> iassumption)
    (hglob := glob m)
    (hA := fun _ w => w.elim0) (hpf := fun _ k => k.elim0)
    (X := start m) (Y := fun c => iprop(ends m c ∗ unscopedSems0 c)) (Z := fun _ => iprop(emp))
    (hX := start_intro m ρ) (hin := phi0_intro m) (hout := phi1_exit m)
    (QY := fun c s => Ends m c s ∧ ∀ sm : SemLoc sig, sm.isScoped .tc = false → s.sem ((c.tc : Thread nD τ), sm) = 0)
    (hY := fun c s' => by
      iintro ⟨⟨He, Hu⟩, -, HSI⟩
      ihave %h := (ends_read m c s') $$ [He HSI]
      · isplitl [He] <;> iassumption
      imod (Pipeline.unscopedSems0_read (X := unscopedSems0 c) (c := c) fupd_intro s') $$ [Hu HSI] with ⟨%hu, HSI⟩
      · isplitl [Hu] <;> iassumption
      imodintro
      isplitr; · ipureintro; exact ⟨h, hu⟩
      iexact HSI)
    (hQ := fun _ h hs => ⟨fun c => (h c).2.2.1, sem_eq_zero hs fun c => (h c).2.2.2⟩)

end Cert.Gather
end
-- ==== Proof.Value.lean ====
/-
# The value

At the ideal instance the four accumulation steps add up the contributions of the eight devices' column blocks, in the
order of the shifts. A shift reaches every device once, so the sum is the whole product `x @ w` at the device's rows, and
the epilogue is the product of it with its logistic function. The references divide by `1 + exp (-y)` instead; the clip of
the second one does nothing to an entry between its bounds.
-/
module

public import proofs.«01_k».proof.Proof.Sched
public import proofs.«01_k».proof.Proof.Gen.SiluIdeal
public import proofs.«01_k».proof.Proof.Gen.ReferenceIdeal
public import proofs.«01_k».proof.Proof.Gen.Pre_unclipped_KernelIdeal
public import Idealize.ShloMosaic.Lib.ReduceAll
public import Idealize.ShloMosaic.Lib.Pointwise
public import Idealize.ShloMosaic.Lib.Pointwise.IndexBridge
public import Idealize.ShloMosaic.Lib.Pipeline.ValueKit.Acc

@[expose] public section

noncomputable section

namespace Cert.Gather

open Cert.KernelIdeal Cert.KernelIdeal.Gen
open Idealize.ShloMosaic

/-! ## The payloads at an entry -/

/-- The first step: a product of 512 terms. -/
theorem pay3_apply (g : Vec Ideal S256x512 .bf16) (w : Vec Ideal S1x512x2048 .f32) (r : Fin 256) (l : Fin 2048) :
    k0_pay3 (F := Ideal) g w (ix2 r l) = ∑ k : Fin 512, (g (ix2 r k) * w (ix3 0 k l) : EReal) := by
  pointwise [k0_pay3]

/-- The later steps add theirs to what is there. -/
theorem pay4_apply (g : Vec Ideal S256x512 .bf16) (w : Vec Ideal S1x512x2048 .f32) (a : Vec Ideal S256x2048 .f32) (r : Fin 256) (l : Fin 2048) :
    k0_pay4 (F := Ideal) g w a (ix2 r l) = (a (ix2 r l) + ∑ k : Fin 512, (g (ix2 r k) * w (ix3 0 k l) : EReal) : EReal) := by
  pointwise [k0_pay4]

theorem pay5_apply (g : Vec Ideal S256x512 .bf16) (w : Vec Ideal S1x512x2048 .f32) (a : Vec Ideal S256x2048 .f32) (r : Fin 256) (l : Fin 2048) :
    k0_pay5 (F := Ideal) g w a (ix2 r l) = (a (ix2 r l) + ∑ k : Fin 512, (g (ix2 r k) * w (ix3 0 k l) : EReal) : EReal) := by
  pointwise [k0_pay5]

theorem pay6_apply (g : Vec Ideal S256x512 .bf16) (w : Vec Ideal S1x512x2048 .f32) (a : Vec Ideal S256x2048 .f32) (r : Fin 256) (l : Fin 2048) :
    k0_pay6 (F := Ideal) g w a (ix2 r l) = (a (ix2 r l) + ∑ k : Fin 512, (g (ix2 r k) * w (ix3 0 k l) : EReal) : EReal) := by
  pointwise [k0_pay6]

/-- The epilogue. -/
theorem pay7_apply (a : Vec Ideal S256x2048 .f32) (r : Fin 256) (l : Fin 2048) :
    k0_pay7 (F := Ideal) a (ix2 r l) = (a (ix2 r l) * Ideal.logistic (a (ix2 r l)) : EReal) := by
  pointwise [k0_pay7]

/-- The rounding of the column block is the identity. -/
theorem pay1_apply (a : Vec Ideal S2048x256 .f32) (i : S2048x256.Idx) :
    k0_pay1 (F := Ideal) a i = a i := by
  pointwise [k0_pay1]

/-! ## The sum over the devices -/

variable (m : (ℓ : Loc nD τ sig) → Buf (Elt Ideal) ℓ)

/-- What device `d`'s column block contributes to entry `(r, l)` of device `c`'s result. -/
def blockDot (c d : Dev nD) (r : Fin 256) (l : Fin 2048) : EReal :=
  ∑ k : Fin 256, (xC m d (ValueIdx.ix2 ⟨c.val * 256 + r.val, row_lt c _ r.isLt⟩ k) * wC m c (ValueIdx.ix2 ⟨d.val * 256 + k.val, row_lt d _ k.isLt⟩ l) : EReal)

/-- The operands of step `ch` at a position, read off the devices' arguments. -/
theorem gCh_apply (c : Dev nD) (ch : Fin 4) (r : Fin 256) (k : Fin 512) (h : 2 * ch.val + k.val / 256 < 8) :
    gCh m c ch (ix2 r k) = xC m (src c (ord ⟨2 * ch.val + k.val / 256, h⟩))
      (ValueIdx.ix2 ⟨c.val * 256 + r.val, row_lt c _ r.isLt⟩ ⟨k.val % 256, Nat.mod_lt _ (by decide)⟩) := by
  have e1 : (512 * ch.val + k.val) / 256 = 2 * ch.val + k.val / 256 := by omega
  have e2 : (512 * ch.val + k.val) % 256 = k.val % 256 := by omega
  show gxC m c (ValueIdx.ix2 r ⟨512 * ch.val + k.val, col_lt ch k⟩) = _
  show xbC m (src c (ord ⟨(512 * ch.val + k.val) / 256, _⟩)) (ValueIdx.ix2 ⟨c.val * 256 + r.val, _⟩ ⟨(512 * ch.val + k.val) % 256, _⟩) = _
  unfold xbC
  rw [pay1_apply]
  simp only [e1, e2]

theorem wCh_apply (c : Dev nD) (ch : Fin 4) (k : Fin 512) (l : Fin 2048) (h : 2 * ch.val + k.val / 256 < 8) :
    wCh m c ch (ix3 0 k l) = wC m c (ValueIdx.ix2 ⟨(src c (ord ⟨2 * ch.val + k.val / 256, h⟩)).val * 256 + k.val % 256,
      row_lt _ _ (Nat.mod_lt _ (by decide))⟩ l) := rfl

/-- Step `ch` adds the contributions of two devices. -/
theorem chunk_sum (c : Dev nD) (ch : Fin 4) (r : Fin 256) (l : Fin 2048) :
    ∑ k : Fin 512, (gCh m c ch (ix2 r k) * wCh m c ch (ix3 0 k l) : EReal)
      = blockDot m c (src c (ord ⟨2 * ch.val, by omega⟩)) r l + blockDot m c (src c (ord ⟨2 * ch.val + 1, by omega⟩)) r l := by
  let f : Fin 2 → Fin 256 → EReal := fun a b =>
    (xC m (src c (ord ⟨2 * ch.val + a.val, by omega⟩)) (ValueIdx.ix2 ⟨c.val * 256 + r.val, row_lt c _ r.isLt⟩ b)
      * wC m c (ValueIdx.ix2 ⟨(src c (ord ⟨2 * ch.val + a.val, by omega⟩)).val * 256 + b.val, row_lt _ _ b.isLt⟩ l) : EReal)
  have h : ∀ k : Fin 512, (gCh m c ch (ix2 r k) * wCh m c ch (ix3 0 k l) : EReal)
      = f ⟨k.val / 256, by omega⟩ ⟨k.val % 256, by omega⟩ := fun k => by
    rw [gCh_apply m c ch r k (by omega), wCh_apply m c ch k l (by omega)]
  rw [Finset.sum_congr rfl fun k _ => h k]
  exact (Fin.sum_univ_mul_divNat_modNat 2 256 f).trans (Fin.sum_univ_two _)

/-- The eight shifts reach the eight devices once each. -/
theorem sum_src (c : Dev nD) (f : Dev nD → EReal) :
    ((f (src c (ord 0)) + f (src c (ord 1))) + (f (src c (ord 2)) + f (src c (ord 3))) + (f (src c (ord 4)) + f (src c (ord 5)))
      + (f (src c (ord 6)) + f (src c (ord 7)))) = ∑ d : Dev nD, f d := by
  have hb : Function.Bijective fun t : Fin 8 => src c (ord t) := by
    rw [Fintype.bijective_iff_injective_and_card]
    exact ⟨by revert c; decide, rfl⟩
  rw [← hb.sum_comp f, Fin.sum_univ_eight]
  ac_rfl

/-- After the last step the accumulator holds the contributions of all eight devices. -/
theorem acc3_apply (c : Dev nD) (r : Fin 256) (l : Fin 2048) :
    acc3 m c (ix2 r l) = ∑ d : Dev nD, blockDot m c d r l := by
  unfold acc3 acc2 acc1 acc0
  rw [pay6_apply, pay5_apply, pay4_apply, pay3_apply, chunk_sum, chunk_sum, chunk_sum, chunk_sum]
  exact sum_src c fun d => blockDot m c d r l

/-- The result is that sum times its logistic function. -/
theorem outC_apply (c : Dev nD) (r : Fin 256) (l : Fin 2048) :
    outC m c (ix2 r l) = ((∑ d : Dev nD, blockDot m c d r l) * Ideal.logistic (∑ d : Dev nD, blockDot m c d r l) : EReal) := by
  unfold outC
  rw [pay7_apply, acc3_apply]

/-- Where the devices hold the column blocks of `X` and a copy each of `W`, the contributions add up to the product. -/
theorem blockDot_sum (X W : Vec Ideal S2048x2048 .f32)
    (hx : ∀ d : Dev nD, xC m d = Layout.block ⟨2, ![2048, 256]⟩ ⟨2, ![2048, 2048]⟩ 1 8 d X) (hw : ∀ d : Dev nD, wC m d = W)
    (c : Dev nD) (r : Fin 256) (l : Fin 2048) :
    ∑ d : Dev nD, blockDot m c d r l
      = ∑ k : Fin 2048, (X (ix2 ⟨c.val * 256 + r.val, row_lt c _ r.isLt⟩ k) * W (ix2 k l) : EReal) := by
  have h := Fin.sum_univ_univ_mul_add 8 256 fun q : ℕ => if h : q < 2048 then
    (X (ix2 ⟨c.val * 256 + r.val, row_lt c _ r.isLt⟩ ⟨q, h⟩) * W (ix2 ⟨q, h⟩ l) : EReal) else 0
  refine Eq.trans (Finset.sum_congr rfl fun d _ => ?_) (h.trans (Finset.sum_congr rfl fun k _ => dif_pos k.isLt))
  unfold blockDot
  refine Finset.sum_congr rfl fun k _ => ?_
  rw [dif_pos (row_lt d _ k.isLt), hx d, hw c]
  refine congrArg₂ (fun a b : EReal => a * b) (congrArg X (funext fun a => Fin.ext ?_)) rfl
  match a with
  | 0 => rfl
  | 1 => rfl

/-! ## The references -/

/-- `e` to any power is at least 0, so one more than it is no zero. -/
theorem one_add_exp_ne_zero (y : EReal) : (1 : EReal) + Ideal.exp y ≠ 0 := by
  have h : (0 : EReal) ≤ Ideal.exp y := by
    induction y with
    | bot => exact le_rfl
    | top => exact le_top
    | coe r => exact EReal.coe_nonneg.mpr (Real.exp_pos r).le
  exact (lt_of_lt_of_le zero_lt_one (le_add_of_nonneg_right h)).ne'

/-- The quotient is the product with the logistic function. -/
theorem div_eq_mul_logistic (y : EReal) : Ideal.div y (1 + Ideal.exp (-y)) = y * Ideal.logistic y := by
  unfold Ideal.logistic Ideal.div
  rw [if_neg (one_add_exp_ne_zero _), if_neg (one_add_exp_ne_zero _), one_mul]

/-- Row `i` of `X` with column `l` of `W`. -/
def rowDot (X W : FVec Ideal ⟨2, ![2048, 2048]⟩ .f32) (i l : Fin 2048) : EReal :=
  ∑ k : Fin 2048, (X (ix2 i k) * W (ix2 k l) : EReal)

/-- What the reference without the clip ends with, of its arguments. -/
def siluOf (X W : FVec Ideal Cert.SiluIdeal.S2048x2048 .f32) : FVec Ideal Cert.SiluIdeal.S2048x2048 .f32 :=
  Host.divf (Host.dotGeneral Cert.SiluIdeal.dot_S2048x2048_S2048x2048_S2048x2048_1_0_0_1_n_n none X W)
    (addf (broadcastInDim Cert.SiluIdeal.S2048x2048 ![] Cert.SiluIdeal.Gen.bcast_S_S2048x2048 (constant Cert.SiluIdeal.S_ .f32 0x3F800000#32))
      (Host.exp (Host.negf (Host.dotGeneral Cert.SiluIdeal.dot_S2048x2048_S2048x2048_S2048x2048_1_0_0_1_n_n none X W))))

/-- What the reference with the clip ends with, of its arguments. -/
def clippedOf (X W : FVec Ideal Cert.ReferenceIdeal.S2048x2048 .f32) : FVec Ideal Cert.ReferenceIdeal.S2048x2048 .f32 :=
  Host.divf (Host.dotGeneral Cert.ReferenceIdeal.dot_S2048x2048_S2048x2048_S2048x2048_1_0_0_1_n_n none X W)
    (addf (broadcastInDim Cert.ReferenceIdeal.S2048x2048 ![] Cert.ReferenceIdeal.Gen.bcast_S_S2048x2048 (constant Cert.ReferenceIdeal.S_ .f32 0x3F800000#32))
      (Host.exp (Host.negf (minimumf (broadcastInDim Cert.ReferenceIdeal.S2048x2048 ![] Cert.ReferenceIdeal.Gen.bcast_S_S2048x2048 (id (constant Cert.ReferenceIdeal.S_ .f32 0x42700000#32)))
        (maximumf (broadcastInDim Cert.ReferenceIdeal.S2048x2048 ![] Cert.ReferenceIdeal.Gen.bcast_S_S2048x2048 (id (constant Cert.ReferenceIdeal.S_ .f32 0xC2700000#32)))
          (Host.dotGeneral Cert.ReferenceIdeal.dot_S2048x2048_S2048x2048_S2048x2048_1_0_0_1_n_n none X W))))))

/-- The reference without the clip, at an entry. -/
theorem siluOf_apply (X W : FVec Ideal Cert.SiluIdeal.S2048x2048 .f32) (i l : Fin 2048) :
    siluOf X W (ix2 i l) = Ideal.div (rowDot X W i l) (1 + Ideal.exp (-rowDot X W i l)) := by
  unfold rowDot
  pointwise [siluOf]

/-- The reference with the clip, at an entry. -/
theorem clippedOf_apply (X W : FVec Ideal Cert.ReferenceIdeal.S2048x2048 .f32) (i l : Fin 2048) :
    clippedOf X W (ix2 i l) = Ideal.div (rowDot X W i l) (1 + Ideal.exp (-(min (Ideal.ofBits .f32 0x42700000#32)
      (max (Ideal.ofBits .f32 0xC2700000#32) (rowDot X W i l))))) := by
  unfold rowDot
  pointwise [clippedOf]
  rfl

/-! ## The kernel's result is the reference's block -/

section Whole

variable (X W : Vec Ideal S2048x2048 .f32)
  (hx : ∀ d : Dev nD, xC m d = Layout.block ⟨2, ![2048, 256]⟩ ⟨2, ![2048, 2048]⟩ 1 8 d X) (hw : ∀ d : Dev nD, wC m d = W)

/-- Entry `(r, l)` of row block `c` of an array. -/
theorem block_rows_apply (Y : Vec Ideal S2048x2048 .f32) (c : Dev nD) (r : Fin 256) (l : Fin 2048) :
    Layout.block ⟨2, ![256, 2048]⟩ ⟨2, ![2048, 2048]⟩ 0 8 c Y (by decide) (ix2 r l) = Y (ix2 ⟨c.val * 256 + r.val, row_lt c _ r.isLt⟩ l) := by
  refine congrArg Y (funext fun a => Fin.ext ?_)
  match a with
  | 0 => rfl
  | 1 => rfl

include hx hw in
/-- Device `c` ends with row block `c` of `silu (X @ W)`, whatever `X` and `W` are. -/
theorem outC_silu (c : Dev nD) : outC m c = Layout.block ⟨2, ![256, 2048]⟩ ⟨2, ![2048, 2048]⟩ 0 8 c (siluOf X W) (by decide) := by
  funext i
  obtain ⟨r, l, rfl⟩ : ∃ (r : Fin 256) (l : Fin 2048), i = ix2 r l := ⟨i 0, i 1, eq_ix2 i⟩
  rw [outC_apply, blockDot_sum m X W hx hw]
  refine Eq.trans ?_ (block_rows_apply (siluOf X W) c r l).symm
  rw [siluOf_apply, div_eq_mul_logistic]
  rfl

end Whole

/-! ## The precondition -/

/-- The bounds, as the reals their words are. -/
theorem word_hi : Ideal.ofBits .f32 0x42700000#32 = ((60 : ℝ) : EReal) := by
  simp [Ideal.ofBits, Ideal.ieee, -EReal.coe_mul, -EReal.coe_neg]; norm_num
theorem word_lo : Ideal.ofBits .f32 0xC2700000#32 = ((-60 : ℝ) : EReal) := by
  simp [Ideal.ofBits, Ideal.ieee, -EReal.coe_mul, -EReal.coe_neg]; norm_num
theorem word_shareHi : Ideal.ofBits .f32 0x40F00000#32 = ((15 / 2 : ℝ) : EReal) := by
  simp [Ideal.ofBits, Ideal.ieee, -EReal.coe_mul, -EReal.coe_neg]; norm_num
theorem word_shareLo : Ideal.ofBits .f32 0xC0F00000#32 = ((-(15 / 2) : ℝ) : EReal) := by
  simp [Ideal.ofBits, Ideal.ieee, -EReal.coe_mul, -EReal.coe_neg]; norm_num

theorem both_of_andi : ∀ a b : Bool, IntOp.andi (BitVec.ofBool a) (BitVec.ofBool b) = 1#1 → a = true ∧ b = true := by decide

/-- Under the precondition the product of the column block with each row block of the weights is within ±7.5. -/
theorem share_bounds (x : Vec Ideal S2048x256 .f32) (w : Vec Ideal S2048x2048 .f32)
    (h : Cert.Pre_unclipped_KernelIdeal.fn (F := Ideal) x w = fun _ => 1#1) (i : Fin 2048) (b : Fin 8) (l : Fin 2048) :
    ((-(15 / 2) : ℝ) : EReal) ≤ ∑ k : Fin 256, (x (ix2 i k) * w (ix2 ⟨b.val * 256 + k.val, by omega⟩ l) : EReal)
    ∧ ∑ k : Fin 256, (x (ix2 i k) * w (ix2 ⟨b.val * 256 + k.val, by omega⟩ l) : EReal) ≤ ((15 / 2 : ℝ) : EReal) := by
  have : Subsingleton (Cert.Pre_unclipped_KernelIdeal.S_).Idx := ⟨fun a b => funext fun k => k.elim0⟩
  have e := Host.reduce_andi_all _ _ _ _ _ (congrFun h ix0) (ix3 i b l)
  pointwise at e
  rw [← word_shareHi, ← word_shareLo]
  have e' := both_of_andi _ _ e
  exact ⟨of_decide_eq_true e'.1, of_decide_eq_true e'.2⟩

/-- So every contribution to an entry of the result is within ±7.5, -/
theorem blockDot_bounds (h : ∀ d : Dev nD, Cert.Pre_unclipped_KernelIdeal.fn (F := Ideal) (xC m d) (wC m d) = fun _ => 1#1)
    (W : Vec Ideal S2048x2048 .f32) (hw : ∀ d : Dev nD, wC m d = W) (c d : Dev nD) (r : Fin 256) (l : Fin 2048) :
    ((-(15 / 2) : ℝ) : EReal) ≤ blockDot m c d r l ∧ blockDot m c d r l ≤ ((15 / 2 : ℝ) : EReal) := by
  have e := share_bounds _ _ (h d) ⟨c.val * 256 + r.val, row_lt c _ r.isLt⟩ d l
  rw [hw d] at e
  unfold blockDot
  rw [hw c]
  exact e

/-- and the sum of the eight within ±60. -/
theorem sum_bounds (f : Dev nD → EReal) (h : ∀ d, ((-(15 / 2) : ℝ) : EReal) ≤ f d ∧ f d ≤ ((15 / 2 : ℝ) : EReal)) :
    ((-60 : ℝ) : EReal) ≤ ∑ d, f d ∧ ∑ d, f d ≤ ((60 : ℝ) : EReal) := by
  have k : ∀ b : ℝ, (∑ _d : Dev nD, (b : EReal)) = ((8 * b : ℝ) : EReal) := fun b => by
    rw [Fin.sum_univ_eight]
    simp only [← EReal.coe_add]
    exact congrArg _ (by ring)
  have lo := Finset.sum_le_sum fun d (_ : d ∈ (Finset.univ : Finset (Dev nD))) => (h d).1
  have hi := Finset.sum_le_sum fun d (_ : d ∈ (Finset.univ : Finset (Dev nD))) => (h d).2
  rw [k] at lo hi
  norm_num at lo hi ⊢
  exact ⟨lo, hi⟩

section Whole

variable (X W : Vec Ideal S2048x2048 .f32)
  (hx : ∀ d : Dev nD, xC m d = Layout.block ⟨2, ![2048, 256]⟩ ⟨2, ![2048, 2048]⟩ 1 8 d X) (hw : ∀ d : Dev nD, wC m d = W)

include hx hw in
/-- Under the precondition, device `c` ends with row block `c` of the reference with the clip. -/
theorem outC_clipped (h : ∀ d : Dev nD, Cert.Pre_unclipped_KernelIdeal.fn (F := Ideal) (xC m d) (wC m d) = fun _ => 1#1) (c : Dev nD) :
    outC m c = Layout.block ⟨2, ![256, 2048]⟩ ⟨2, ![2048, 2048]⟩ 0 8 c (clippedOf X W) (by decide) := by
  funext i
  obtain ⟨r, l, rfl⟩ : ∃ (r : Fin 256) (l : Fin 2048), i = ix2 r l := ⟨i 0, i 1, eq_ix2 i⟩
  have b := sum_bounds _ fun d => blockDot_bounds m h W hw c d r l
  rw [outC_apply]
  refine Eq.trans ?_ (block_rows_apply (clippedOf X W) c r l).symm
  rw [clippedOf_apply, word_hi, word_lo]
  have e : rowDot X W ⟨c.val * 256 + r.val, row_lt c _ r.isLt⟩ l = ∑ d : Dev nD, blockDot m c d r l :=
    (blockDot_sum m X W hx hw c r l).symm
  rw [e, max_eq_right b.1, min_eq_right b.2, div_eq_mul_logistic]

end Whole

end Cert.Gather

end
-- ==== Proof.lean ====
/-
# The claims

The programs' frames, and the kernel's value against the two references.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.SiluIdeal
public import proofs.«01_k».proof.Proof.Gen.SiluIdeal.Run
public import proofs.«01_k».proof.Proof.Gen.Pre_unclipped_KernelIdeal
public import proofs.«01_k».proof.Proof.Gen.Pre_unclipped_ReferenceIdeal
public import proofs.«01_k».proof.Proof.Run
public import proofs.«01_k».proof.Proof.Value
public import Idealize.ShloMosaic.Adequacy
public import Idealize.ShloMosaic.Init
public import Idealize.ShloMosaic.Lib.Quiescent

@[expose] public section

noncomputable section

namespace Cert.Proof

open Idealize.ShloMosaic Idealize.SL.Sem

/-- The kernel runs, its arguments unchanged, its semaphores at zero. -/
theorem frame_kernelIdeal : Cert.quiescent_KernelIdeal := fun m ρ _ =>
  (θ_run Cert.KernelIdeal.defs _ _).mono (fun _ h => ⟨fun c => ⟨(h.1 c).1, (h.1 c).2.1⟩, h.2⟩) (Cert.Gather.run_main (F := Ideal) m ρ)

/-- So does the kernel as printed, over machine words: its text is the same. -/
theorem frame_kernel : Cert.quiescent_Kernel := fun m ρ _ =>
  (θ_run Cert.KernelIdeal.defs _ _).mono (fun _ h => ⟨fun c => ⟨(h.1 c).1, (h.1 c).2.1⟩, h.2⟩) (Cert.Gather.run_main (F := Bits) m ρ)

/-- The references run too: they are host operations alone, and declare no semaphore. -/
theorem frame_reference : Cert.quiescent_ReferenceIdeal := fun m ρ _ =>
  (θ_run Cert.ReferenceIdeal.defs _ _).mono (fun r h => ⟨fun c => (h c).2, sem_eq_zero_of_no_sems rfl r.2⟩)
    (Cert.ReferenceIdeal.Value.run m ρ)

theorem frame_silu : Cert.quiescent_SiluIdeal := fun m ρ _ =>
  (θ_run Cert.SiluIdeal.defs _ _).mono (fun r h => ⟨fun c => (h c).2, sem_eq_zero_of_no_sems rfl r.2⟩)
    (Cert.SiluIdeal.Value.run m ρ)

/-- From memories that hold the blocks of the reference's arguments, the kernel ends with the blocks of what the reference
    without the clip ends with. -/
theorem algebraic_silu : Cert.algebraic_KernelIdeal_SiluIdeal := fun m ρ m' ρ' _ hagree =>
  ⟨Cert.Gather.siluOf (m' (((0 : Dev Cert.SiluIdeal.nD).tc : Thread Cert.SiluIdeal.nD Cert.SiluIdeal.τ).loc Cert.SiluIdeal.main_arg0))
      (m' (((0 : Dev Cert.SiluIdeal.nD).tc : Thread Cert.SiluIdeal.nD Cert.SiluIdeal.τ).loc Cert.SiluIdeal.main_arg1)),
    (θ_run Cert.KernelIdeal.defs _ _).mono
      (fun _ h c => ⟨(h.1 c).2.2.trans (Cert.Gather.outC_silu m _ _ (fun d => (hagree d).1) (fun d => (hagree d).2) c), (h.1 c).1, (h.1 c).2.1⟩)
      (Cert.Gather.run_main (F := Ideal) m ρ),
    (θ_run Cert.SiluIdeal.defs _ _).mono (fun _ h => h 0) (Cert.SiluIdeal.Value.run m' ρ')⟩

/-- The same of the reference with the clip, under the precondition. -/
theorem algebraic_reference : Cert.algebraic_KernelIdeal_ReferenceIdeal_pre_unclipped_KernelIdeal := fun m ρ m' ρ' hpre hagree =>
  ⟨Cert.Gather.clippedOf (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono
      (fun _ h c => ⟨(h.1 c).2.2.trans (Cert.Gather.outC_clipped m _ _ (fun d => (hagree d).1) (fun d => (hagree d).2) hpre c), (h.1 c).1, (h.1 c).2.1⟩)
      (Cert.Gather.run_main (F := Ideal) m ρ),
    (θ_run Cert.ReferenceIdeal.defs _ _).mono (fun _ h => h 0) (Cert.ReferenceIdeal.Value.run m' ρ')⟩

theorem claim : Cert.Claim := ⟨Cert.Kernel.Gen.facts, Cert.KernelIdeal.Gen.facts, Cert.ReferenceIdeal.Gen.facts, Cert.SiluIdeal.Gen.facts,
  Cert.Pre_unclipped_KernelIdeal.Gen.facts, Cert.Pre_unclipped_ReferenceIdeal.Gen.facts,
  frame_kernel, frame_kernelIdeal, fun m ρ _ => frame_kernelIdeal m ρ trivial,
  frame_reference, fun m ρ _ => frame_reference m ρ trivial, frame_silu, trivial, algebraic_silu, algebraic_reference⟩

end Cert.Proof

end
